-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1x2048x2048 : Shape := ⟨3, ![1, 2048, 2048]⟩
abbrev S1x2048x128 : Shape := ⟨3, ![1, 2048, 128]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048x128 : S_.BroadcastsInDim S1x2048x128 (![] : Fin 0 → Fin S1x2048x128.rank)
  reducesTo_S1x2048x128_S_d0_1_2 : S1x2048x128.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_v32 : IVec S_ 1) (main_v33 : FVec F S512 .f32) : IVec S_ 1 :=
  let main_cst_12 : FVec F S_ .f32 := constant S_ .f32 0x7F800000#32
  let main_v34 : FVec F S512 .f32 := broadcastInDim S512 ![] bcast_S_S512 main_cst_12
  let main_v35 : IVec S512 1 := cmpf .olt main_v33 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v32 main_v36
  main_v37

def fn_part1 {F : FTy → Type} [FloatOps F] (main_arg5 : FVec F S2048x2048 .f32) (main_arg6 : FVec F S2048 .f32) (main_arg7 : FVec F S2048x512 .f32) (main_arg8 : FVec F S512 .f32) (main_v12 : IVec S_ 1) (main_v15 : IVec S1x2048x128 1) (main_c_5 : IVec S_ 1) : IVec S_ 1 :=
  let main_v16 : IVec S_ 1 := (fun x v => Host.reduce IntOp.andi x v reducesTo_S1x2048x128_S_d0_1_2 h_S_) main_v15 main_c_5
  let main_v17 : IVec S_ 1 := andi main_v12 main_v16
  let main_v18 : FVec F S2048x2048 .f32 := Host.absf main_arg5
  let main_cst_6 : FVec F S_ .f32 := constant S_ .f32 0x7F800000#32
  let main_v19 : FVec F S2048x2048 .f32 := broadcastInDim S2048x2048 ![] bcast_S_S2048x2048 main_cst_6
  let main_v20 : IVec S2048x2048 1 := cmpf .olt main_v18 main_v19
  let main_c_7 : IVec S_ 1 := constantI S_ 1 1#1
  let main_v21 : IVec S_ 1 := (fun x v => Host.reduce IntOp.andi x v reducesTo_S2048x2048_S_d0_1 h_S_) main_v20 main_c_7
  let main_v22 : IVec S_ 1 := andi main_v17 main_v21
  let main_v23 : FVec F S2048 .f32 := Host.absf main_arg6
  let main_cst_8 : FVec F S_ .f32 := constant S_ .f32 0x7F800000#32
  let main_v24 : FVec F S2048 .f32 := broadcastInDim S2048 ![] bcast_S_S2048 main_cst_8
  let main_v25 : IVec S2048 1 := cmpf .olt main_v23 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v22 main_v26
  let main_v28 : FVec F S2048x512 .f32 := Host.absf main_arg7
  let main_cst_10 : FVec F S_ .f32 := constant S_ .f32 0x7F800000#32
  let main_v29 : FVec F S2048x512 .f32 := broadcastInDim S2048x512 ![] bcast_S_S2048x512 main_cst_10
  let main_v30 : IVec S2048x512 1 := cmpf .olt main_v28 main_v29
  let main_c_11 : IVec S_ 1 := constantI S_ 1 1#1
  let main_v31 : IVec S_ 1 := (fun x v => Host.reduce IntOp.andi x v reducesTo_S2048x512_S_d0_1 h_S_) main_v30 main_c_11
  let main_v32 : IVec S_ 1 := andi main_v27 main_v31
  let main_v33 : FVec F S512 .f32 := Host.absf main_arg8
  fn_part2 (F := F) main_v32 main_v33

def fn {F : FTy → Type} [FloatOps F] (main_arg0 : FVec F S1x2048x2048 .f32) (main_arg1 : FVec F S1x2048x128 .f32) (main_arg2 : FVec F S1x2048x128 .f32) (main_arg3 : IVec S1x2048 32) (main_arg4 : IVec S_ 32) (main_arg5 : FVec F S2048x2048 .f32) (main_arg6 : FVec F S2048 .f32) (main_arg7 : FVec F S2048x512 .f32) (main_arg8 : FVec F S512 .f32) (main_arg9 : FVec F S2048x512 .f32) (main_arg10 : FVec F S512 .f32) (main_arg11 : FVec F S2048x2048 .f32) : IVec S_ 1 :=
  let main_c : IVec S_ 32 := constantI S_ 32 1#32
  let main_v0 : IVec S1x2048 32 := broadcastInDim S1x2048 ![] bcast_S_S1x2048 main_c
  let main_v1 : IVec S1x2048 1 := cmpi .eq main_arg3 main_v0
  let main_c_0 : IVec S_ 1 := constantI S_ 1 1#1
  let main_v2 : IVec S_ 1 := (fun x v => Host.reduce IntOp.andi x v reducesTo_S1x2048_S_d0_1 h_S_) main_v1 main_c_0
  let main_v3 : FVec F S1x2048x2048 .f32 := Host.absf main_arg0
  let main_cst : FVec F S_ .f32 := constant S_ .f32 0x7F800000#32
  let main_v4 : FVec F S1x2048x2048 .f32 := broadcastInDim S1x2048x2048 ![] bcast_S_S1x2048x2048 main_cst
  let main_v5 : IVec S1x2048x2048 1 := cmpf .olt main_v3 main_v4
  let main_c_1 : IVec S_ 1 := constantI S_ 1 1#1
  let main_v6 : IVec S_ 1 := (fun x v => Host.reduce IntOp.andi x v reducesTo_S1x2048x2048_S_d0_1_2 h_S_) main_v5 main_c_1
  let main_v7 : IVec S_ 1 := andi main_v2 main_v6
  let main_v8 : FVec F S1x2048x128 .f32 := Host.absf main_arg1
  let main_cst_2 : FVec F S_ .f32 := constant S_ .f32 0x7F800000#32
  let main_v9 : FVec F S1x2048x128 .f32 := broadcastInDim S1x2048x128 ![] bcast_S_S1x2048x128 main_cst_2
  let main_v10 : IVec S1x2048x128 1 := cmpf .olt main_v8 main_v9
  let main_c_3 : IVec S_ 1 := constantI S_ 1 1#1
  let main_v11 : IVec S_ 1 := (fun x v => Host.reduce IntOp.andi x v reducesTo_S1x2048x128_S_d0_1_2 h_S_) main_v10 main_c_3
  let main_v12 : IVec S_ 1 := andi main_v7 main_v11
  let main_v13 : FVec F S1x2048x128 .f32 := Host.absf main_arg2
  let main_cst_4 : FVec F S_ .f32 := constant S_ .f32 0x7F800000#32
  let main_v14 : FVec F S1x2048x128 .f32 := broadcastInDim S1x2048x128 ![] bcast_S_S1x2048x128 main_cst_4
  let main_v15 : IVec S1x2048x128 1 := cmpf .olt main_v13 main_v14
  let main_c_5 : IVec S_ 1 := constantI S_ 1 1#1
  fn_part1 (F := F) main_arg5 main_arg6 main_arg7 main_arg8 main_v12 main_v15 main_c_5
-- ==== Kernel.lean ====
abbrev S1x2048x2048 : Shape := ⟨3, ![1, 2048, 2048]⟩
abbrev S1x2048x128 : Shape := ⟨3, ![1, 2048, 128]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S2048x128 : Shape := ⟨2, ![2048, 128]⟩
abbrev S1x512 : Shape := ⟨2, ![1, 512]⟩
abbrev S8x2048 : Shape := ⟨2, ![8, 2048]⟩
abbrev S8x1x2048 : Shape := ⟨3, ![8, 1, 2048]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S16x2048 : Shape := ⟨2, ![16, 2048]⟩
abbrev S1x128 : Shape := ⟨2, ![1, 128]⟩
abbrev S128x128 : Shape := ⟨2, ![128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S8 : Shape := ⟨1, ![8]⟩
abbrev S8x1 : Shape := ⟨2, ![8, 1]⟩
abbrev S128x2048 : Shape := ⟨2, ![128, 2048]⟩
abbrev S1x1x2048 : Shape := ⟨3, ![1, 1, 2048]⟩
abbrev S128x1 : Shape := ⟨2, ![128, 1]⟩
abbrev S256x128 : Shape := ⟨2, ![256, 128]⟩
abbrev S128x256 : Shape := ⟨2, ![128, 256]⟩
abbrev S384x128 : Shape := ⟨2, ![384, 128]⟩
abbrev S128x384 : Shape := ⟨2, ![128, 384]⟩
abbrev S128x512 : Shape := ⟨2, ![128, 512]⟩
abbrev S1x256 : Shape := ⟨2, ![1, 256]⟩
abbrev S640x128 : Shape := ⟨2, ![640, 128]⟩
abbrev S128x640 : Shape := ⟨2, ![128, 640]⟩
abbrev S1x384 : Shape := ⟨2, ![1, 384]⟩
abbrev S768x128 : Shape := ⟨2, ![768, 128]⟩
abbrev S128x768 : Shape := ⟨2, ![128, 768]⟩
abbrev S896x128 : Shape := ⟨2, ![896, 128]⟩
abbrev S128x896 : Shape := ⟨2, ![128, 896]⟩
abbrev S1x640 : Shape := ⟨2, ![1, 640]⟩
abbrev S1024x128 : Shape := ⟨2, ![1024, 128]⟩
abbrev S128x1024 : Shape := ⟨2, ![128, 1024]⟩
abbrev S1x768 : Shape := ⟨2, ![1, 768]⟩
abbrev S1152x128 : Shape := ⟨2, ![1152, 128]⟩
abbrev S128x1152 : Shape := ⟨2, ![128, 1152]⟩
abbrev S1x896 : Shape := ⟨2, ![1, 896]⟩
abbrev S1280x128 : Shape := ⟨2, ![1280, 128]⟩
abbrev S128x1280 : Shape := ⟨2, ![128, 1280]⟩
abbrev S1x1024 : Shape := ⟨2, ![1, 1024]⟩
abbrev S1408x128 : Shape := ⟨2, ![1408, 128]⟩
abbrev S128x1408 : Shape := ⟨2, ![128, 1408]⟩
abbrev S1x1152 : Shape := ⟨2, ![1, 1152]⟩
abbrev S1536x128 : Shape := ⟨2, ![1536, 128]⟩
abbrev S128x1536 : Shape := ⟨2, ![128, 1536]⟩
abbrev S1x1280 : Shape := ⟨2, ![1, 1280]⟩
abbrev S1664x128 : Shape := ⟨2, ![1664, 128]⟩
abbrev S128x1664 : Shape := ⟨2, ![128, 1664]⟩
abbrev S1x1408 : Shape := ⟨2, ![1, 1408]⟩
abbrev S1792x128 : Shape := ⟨2, ![1792, 128]⟩
abbrev S128x1792 : Shape := ⟨2, ![128, 1792]⟩
abbrev S1x1536 : Shape := ⟨2, ![1, 1536]⟩
abbrev S1920x128 : Shape := ⟨2, ![1920, 128]⟩
abbrev S128x1920 : Shape := ⟨2, ![128, 1920]⟩
abbrev S1x1664 : Shape := ⟨2, ![1, 1664]⟩
abbrev S1x1792 : Shape := ⟨2, ![1, 1792]⟩

abbrev nBuf : Space → Nat
  | .hbm => 26
  | .vmem => 33
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S1x2048, .i32⟩
  | .hbm, ⟨4, _⟩ => ⟨S_, .i32⟩
  | .hbm, ⟨5, _⟩ => ⟨S2048x2048, .f32⟩
  | .hbm, ⟨6, _⟩ => ⟨S2048, .f32⟩
  | .hbm, ⟨7, _⟩ => ⟨S2048x512, .f32⟩
  | .hbm, ⟨8, _⟩ => ⟨S512, .f32⟩
  | .hbm, ⟨9, _⟩ => ⟨S2048x512, .f32⟩
  | .hbm, ⟨10, _⟩ => ⟨S512, .f32⟩
  | .hbm, ⟨11, _⟩ => ⟨S2048x2048, .f32⟩
  | .hbm, ⟨12, _⟩ => ⟨S2048x2048, .f32⟩
  | .hbm, ⟨13, _⟩ => ⟨S2048x128, .f32⟩
  | .hbm, ⟨14, _⟩ => ⟨S2048x128, .f32⟩
  | .hbm, ⟨15, _⟩ => ⟨S1x2048, .f32⟩
  | .hbm, ⟨16, _⟩ => ⟨S1x512, .f32⟩
  | .hbm, ⟨17, _⟩ => ⟨S1x512, .f32⟩
  | .hbm, ⟨18, _⟩ => ⟨S2048x2048, .f32⟩
  | .hbm, ⟨19, _⟩ => ⟨S2048x512, .f32⟩
  | .hbm, ⟨20, _⟩ => ⟨S2048x512, .f32⟩
  | .hbm, ⟨21, _⟩ => ⟨S8x2048, .f32⟩
  | .hbm, ⟨22, _⟩ => ⟨S8x1x2048, .f32⟩
  | .hbm, ⟨23, _⟩ => ⟨S2048x2048, .f32⟩
  | .hbm, ⟨24, _⟩ => ⟨S2048x2048, .f32⟩
  | .hbm, ⟨25, _⟩ => ⟨S1x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S2048x512, .f32⟩
  | .local _ .vmem, ⟨4, _⟩ => ⟨S2048x512, .f32⟩
  | .local _ .vmem, ⟨5, _⟩ => ⟨S1x2048, .f32⟩
  | .local _ .vmem, ⟨6, _⟩ => ⟨S1x512, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .f32⟩
  | .local _ .vmem, ⟨13, _⟩ => ⟨S512x2048, .f32⟩
  | .local _ .vmem, ⟨14, _⟩ => ⟨S2048x512, .f32⟩
  | .local _ .vmem, ⟨15, _⟩ => ⟨S512x512, .f32⟩
  | .local _ .vmem, ⟨16, _⟩ => ⟨S512x512, .f32⟩
  | .local _ .vmem, ⟨17, _⟩ => ⟨S8x2048, .f32⟩
  | .local _ .vmem, ⟨18, _⟩ => ⟨S1x1x2048, .f32⟩
  | .local _ .vmem, ⟨19, _⟩ => ⟨S1x1x2048, .f32⟩
  | .local _ .vmem, ⟨20, _⟩ => ⟨S2048x512, .f32⟩
  | .local _ .vmem, ⟨21, _⟩ => ⟨S2048x512, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x512, .f32⟩
  | .local _ .vmem, ⟨27, _⟩ => ⟨S2048x512, .f32⟩
  | .local _ .vmem, ⟨28, _⟩ => ⟨S512x2048, .f32⟩
  | .local _ .vmem, ⟨29, _⟩ => ⟨S512x2048, .f32⟩
  | .local _ .vmem, ⟨30, _⟩ => ⟨S2048x2048, .f32⟩
  | .local _ .vmem, ⟨31, _⟩ => ⟨S512x2048, .f32⟩
  | .local _ .vmem, ⟨32, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3_0 : Ref sig .tc := ⟨.hbm, 18, rfl⟩
abbrev main_call0_v3_1 : Ref sig .tc := ⟨.hbm, 19, rfl⟩
abbrev main_call0_v3_2 : Ref sig .tc := ⟨.hbm, 20, rfl⟩
abbrev main_call0_v3_3 : Ref sig .tc := ⟨.hbm, 21, rfl⟩
abbrev main_call0_v4 : Ref sig .tc := ⟨.hbm, 22, rfl⟩
abbrev main_call0_v5 : Ref sig .tc := ⟨.hbm, 23, rfl⟩
abbrev main_v3 : Ref sig .tc := ⟨.hbm, 24, rfl⟩
abbrev main_v4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem11_1 : DmaSem sig := 16
abbrev cc0_sem12_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v180 : BitVec 32 := Scalar.muli arg0 c512_i32
  let v181 : Index := Scalar.indexCast v180
  let c0_40 : Index := 0#32
  ![v181.toNat, 0]
def k0_off2 (i : grid0.Coords) : Fin 2 → Nat :=
  let arg0 : BitVec 32 := BitVec.ofNat 32 (i 0).val
  let c512_i32_42 : BitVec 32 := 512#32
  let v192 : BitVec 32 := Scalar.muli arg0 c512_i32_42
  let v193 : Index := Scalar.indexCast v192
  let c128 : Index := 128#32
  ![v193.toNat, 128]
def k0_off3 (i : grid0.Coords) : Fin 2 → Nat :=
  let arg0 : BitVec 32 := BitVec.ofNat 32 (i 0).val
  let c512_i32_44 : BitVec 32 := 512#32
  let v204 : BitVec 32 := Scalar.muli arg0 c512_i32_44
  let v205 : Index := Scalar.indexCast v204
  let c256 : Index := 256#32
  ![v205.toNat, 256]
def k0_off4 (i : grid0.Coords) : Fin 2 → Nat :=
  let arg0 : BitVec 32 := BitVec.ofNat 32 (i 0).val
  let c512_i32_46 : BitVec 32 := 512#32
  let v216 : BitVec 32 := Scalar.muli arg0 c512_i32_46
  let v217 : Index := Scalar.indexCast v216
  let c384 : Index := 384#32
  ![v217.toNat, 384]
def k0_cond1 (i : grid0.Coords) : BitVec 1 :=
  let arg0 : BitVec 32 := BitVec.ofNat 32 (i 0).val
  let c3_i32 : BitVec 32 := 3#32
  let v219 : BitVec 1 := Scalar.cmpi .eq arg0 c3_i32
  let v220 : BitVec 32 := Scalar.extui v219
  let c0_i32 : BitVec 32 := 0#32
  let v221 : BitVec 1 := Scalar.cmpi .ne v220 c0_i32
  v221

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x2048x2048 : Shape := ⟨3, ![1, 2048, 2048]⟩
abbrev S1x2048x128 : Shape := ⟨3, ![1, 2048, 128]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S1x1x2048 : Shape := ⟨3, ![1, 1, 2048]⟩
abbrev S1x2048x16x128 : Shape := ⟨4, ![1, 2048, 16, 128]⟩
abbrev S1x16x2048x128 : Shape := ⟨4, ![1, 16, 2048, 128]⟩
abbrev S1x2048x512 : Shape := ⟨3, ![1, 2048, 512]⟩
abbrev S1x1x512 : Shape := ⟨3, ![1, 1, 512]⟩
abbrev S1x2048x4x128 : Shape := ⟨4, ![1, 2048, 4, 128]⟩
abbrev S1x4x2048x128 : Shape := ⟨4, ![1, 4, 2048, 128]⟩
abbrev S1x1x2048x128 : Shape := ⟨4, ![1, 1, 2048, 128]⟩
abbrev S1x16x2048x64 : Shape := ⟨4, ![1, 16, 2048, 64]⟩
abbrev S1x4x2048x64 : Shape := ⟨4, ![1, 4, 2048, 64]⟩
abbrev S1x4x16x128x128 : Shape := ⟨5, ![1, 4, 16, 128, 128]⟩
abbrev S1x4x16x128 : Shape := ⟨4, ![1, 4, 16, 128]⟩
abbrev S1x16x16x128 : Shape := ⟨4, ![1, 16, 16, 128]⟩
abbrev S1x16x128 : Shape := ⟨3, ![1, 16, 128]⟩
abbrev S1x4x4x128 : Shape := ⟨4, ![1, 4, 4, 128]⟩
abbrev S1x4x128 : Shape := ⟨3, ![1, 4, 128]⟩
abbrev S1x4x16 : Shape := ⟨3, ![1, 4, 16]⟩
abbrev S1x4x7 : Shape := ⟨3, ![1, 4, 7]⟩
abbrev S1 : Shape := ⟨1, ![1]⟩
abbrev S1x1x1 : Shape := ⟨3, ![1, 1, 1]⟩
abbrev S4 : Shape := ⟨1, ![4]⟩
abbrev S1x4x1 : Shape := ⟨3, ![1, 4, 1]⟩
abbrev S1x4x7x1 : Shape := ⟨4, ![1, 4, 7, 1]⟩
abbrev S1x4x7x3 : Shape := ⟨4, ![1, 4, 7, 3]⟩
abbrev S1x4x2048 : Shape := ⟨3, ![1, 4, 2048]⟩
abbrev S2048x1 : Shape := ⟨2, ![2048, 1]⟩
abbrev S1x1x2048x2048 : Shape := ⟨4, ![1, 1, 2048, 2048]⟩
abbrev S1x4x1x2048 : Shape := ⟨4, ![1, 4, 1, 2048]⟩
abbrev S1x4x2048x2048 : Shape := ⟨4, ![1, 4, 2048, 2048]⟩
abbrev S1x1x1x2048 : Shape := ⟨4, ![1, 1, 1, 2048]⟩
abbrev S1x4x4x2048x2048 : Shape := ⟨5, ![1, 4, 4, 2048, 2048]⟩
abbrev S1x16x2048x2048 : Shape := ⟨4, ![1, 16, 2048, 2048]⟩
abbrev S1x4x4x2048x128 : Shape := ⟨5, ![1, 4, 4, 2048, 128]⟩
abbrev S1x16x2048 : Shape := ⟨3, ![1, 16, 2048]⟩
abbrev S1x16x2048x1 : Shape := ⟨4, ![1, 16, 2048, 1]⟩

abbrev nBuf : Space → Nat
  | .hbm => 178
  | .vmem => 0
  | .smem => 0
  | _ => 0

abbrev hbmTy0_0 (i : Nat) : BufTy := match i % 128 with
  | 0 => ⟨S1x2048x2048, .f32⟩
  | 1 => ⟨S1x2048x128, .f32⟩
  | 2 => ⟨S1x2048x128, .f32⟩
  | 3 => ⟨S1x2048, .i32⟩
  | 4 => ⟨S_, .i32⟩
  | 5 => ⟨S2048x2048, .f32⟩
  | 6 => ⟨S2048, .f32⟩
  | 7 => ⟨S2048x512, .f32⟩
  | 8 => ⟨S512, .f32⟩
  | 9 => ⟨S2048x512, .f32⟩
  | 10 => ⟨S512, .f32⟩
  | 11 => ⟨S2048x2048, .f32⟩
  | 12 => ⟨S1x2048x2048, .f32⟩
  | 13 => ⟨S1x1x2048, .f32⟩
  | 14 => ⟨S1x2048x2048, .f32⟩
  | 15 => ⟨S1x2048x2048, .f32⟩
  | 16 => ⟨S1x2048x16x128, .f32⟩
  | 17 => ⟨S1x16x2048x128, .f32⟩
  | 18 => ⟨S1x2048x512, .f32⟩
  | 19 => ⟨S1x1x512, .f32⟩
  | 20 => ⟨S1x2048x512, .f32⟩
  | 21 => ⟨S1x2048x512, .f32⟩
  | 22 => ⟨S1x2048x4x128, .f32⟩
  | 23 => ⟨S1x4x2048x128, .f32⟩
  | 24 => ⟨S1x2048x512, .f32⟩
  | 25 => ⟨S1x1x512, .f32⟩
  | 26 => ⟨S1x2048x512, .f32⟩
  | 27 => ⟨S1x2048x512, .f32⟩
  | 28 => ⟨S1x2048x4x128, .f32⟩
  | 29 => ⟨S1x4x2048x128, .f32⟩
  | 30 => ⟨S1x1x2048x128, .f32⟩
  | 31 => ⟨S1x1x2048x128, .f32⟩
  | 32 => ⟨S1x16x2048x128, .f32⟩
  | 33 => ⟨S1x16x2048x128, .f32⟩
  | 34 => ⟨S1x16x2048x64, .f32⟩
  | 35 => ⟨S1x16x2048x64, .f32⟩
  | 36 => ⟨S1x16x2048x64, .f32⟩
  | 37 => ⟨S1x16x2048x128, .f32⟩
  | 38 => ⟨S1x16x2048x128, .f32⟩
  | 39 => ⟨S1x16x2048x128, .f32⟩
  | 40 => ⟨S1x16x2048x128, .f32⟩
  | 41 => ⟨S1x4x2048x128, .f32⟩
  | 42 => ⟨S1x4x2048x128, .f32⟩
  | 43 => ⟨S1x4x2048x64, .f32⟩
  | 44 => ⟨S1x4x2048x64, .f32⟩
  | 45 => ⟨S1x4x2048x64, .f32⟩
  | 46 => ⟨S1x4x2048x128, .f32⟩
  | 47 => ⟨S1x4x2048x128, .f32⟩
  | 48 => ⟨S1x4x2048x128, .f32⟩
  | 49 => ⟨S1x4x2048x128, .f32⟩
  | 50 => ⟨S1x4x16x128x128, .f32⟩
  | 51 => ⟨S_, .f32⟩
  | 52 => ⟨S1x4x16x128, .f32⟩
  | 53 => ⟨S_, .f32⟩
  | 54 => ⟨S1x4x16x128, .f32⟩
  | 55 => ⟨S1x4x16x128, .f32⟩
  | 56 => ⟨S_, .f32⟩
  | 57 => ⟨S1x4x16x128, .f32⟩
  | 58 => ⟨S1x16x16x128, .f32⟩
  | 59 => ⟨S_, .f32⟩
  | 60 => ⟨S1x16x128, .f32⟩
  | 61 => ⟨S_, .f32⟩
  | 62 => ⟨S1x16x128, .f32⟩
  | 63 => ⟨S1x16x128, .f32⟩
  | 64 => ⟨S1x4x4x128, .f32⟩
  | 65 => ⟨S_, .f32⟩
  | 66 => ⟨S1x4x128, .f32⟩
  | 67 => ⟨S_, .f32⟩
  | 68 => ⟨S1x4x128, .f32⟩
  | 69 => ⟨S1x4x128, .f32⟩
  | 70 => ⟨S1x4x16, .f32⟩
  | 71 => ⟨S_, .f32⟩
  | 72 => ⟨S1x4x16, .f32⟩
  | 73 => ⟨S1x4x16, .f32⟩
  | 74 => ⟨S1x4x16, .f32⟩
  | 75 => ⟨S_, .f32⟩
  | 76 => ⟨S1x4x16, .f32⟩
  | 77 => ⟨S1x4x16, .f32⟩
  | 78 => ⟨S1x4x16, .f32⟩
  | 79 => ⟨S1x4x7, .f32⟩
  | 80 => ⟨S1x4x7, .i32⟩
  | 81 => ⟨S_, .i1⟩
  | 82 => ⟨S1x4x16, .i1⟩
  | 83 => ⟨S1, .i32⟩
  | 84 => ⟨S1x1x1, .i32⟩
  | 85 => ⟨S4, .i32⟩
  | 86 => ⟨S1x4x1, .i32⟩
  | 87 => ⟨S_, .i32⟩
  | 88 => ⟨S1x1x1, .i32⟩
  | 89 => ⟨S1x1x1, .i1⟩
  | 90 => ⟨S_, .i32⟩
  | 91 => ⟨S1x1x1, .i32⟩
  | 92 => ⟨S1x1x1, .i32⟩
  | 93 => ⟨S1x1x1, .i32⟩
  | 94 => ⟨S_, .i32⟩
  | 95 => ⟨S1x4x1, .i32⟩
  | 96 => ⟨S1x4x1, .i1⟩
  | 97 => ⟨S_, .i32⟩
  | 98 => ⟨S1x4x1, .i32⟩
  | 99 => ⟨S1x4x1, .i32⟩
  | 100 => ⟨S1x4x1, .i32⟩
  | 101 => ⟨S_, .i32⟩
  | 102 => ⟨S1x4x7, .i32⟩
  | 103 => ⟨S1x4x7, .i1⟩
  | 104 => ⟨S_, .i32⟩
  | 105 => ⟨S1x4x7, .i32⟩
  | 106 => ⟨S1x4x7, .i32⟩
  | 107 => ⟨S1x4x7, .i32⟩
  | 108 => ⟨S1x4x7, .i32⟩
  | 109 => ⟨S1x4x7, .i32⟩
  | 110 => ⟨S1x4x7x1, .i32⟩
  | 111 => ⟨S1x4x7x1, .i32⟩
  | 112 => ⟨S1x4x7x1, .i32⟩
  | 113 => ⟨S1x4x7x3, .i32⟩
  | 114 => ⟨S_, .i1⟩
  | 115 => ⟨S1x4x7, .i1⟩
  | 116 => ⟨S1x4x16, .i1⟩
  | 117 => ⟨S1x4x16x128, .i1⟩
  | 118 => ⟨S1x4x2048, .i1⟩
  | 119 => ⟨S2048, .i32⟩
  | 120 => ⟨S2048x1, .i32⟩
  | 121 => ⟨S2048, .i32⟩
  | 122 => ⟨S1x2048, .i32⟩
  | 123 => ⟨S2048x2048, .i32⟩
  | 124 => ⟨S2048x2048, .i32⟩
  | 125 => ⟨S2048x2048, .i1⟩
  | 126 => ⟨S_, .i32⟩
  | 127 => ⟨S2048x1, .i32⟩
  | _ => ⟨S1x2048x2048, .f32⟩

abbrev hbmTy0_1 (i : Nat) : BufTy := match i % 128 with
  | 0 => ⟨S2048x1, .i32⟩
  | 1 => ⟨S2048x2048, .i32⟩
  | 2 => ⟨S2048x2048, .i32⟩
  | 3 => ⟨S2048x2048, .i1⟩
  | 4 => ⟨S1x1x2048x2048, .i1⟩
  | 5 => ⟨S1x4x1x2048, .i1⟩
  | 6 => ⟨S1x1x2048x2048, .i1⟩
  | 7 => ⟨S1x4x2048x2048, .i1⟩
  | 8 => ⟨S1x4x2048x2048, .i1⟩
  | 9 => ⟨S1x4x2048x2048, .i1⟩
  | 10 => ⟨S1x4x2048x2048, .i1⟩
  | 11 => ⟨S1x4x2048x2048, .i1⟩
  | 12 => ⟨S1x1x1x2048, .i32⟩
  | 13 => ⟨S_, .i32⟩
  | 14 => ⟨S1x1x1x2048, .i32⟩
  | 15 => ⟨S1x1x1x2048, .i1⟩
  | 16 => ⟨S1x4x2048x2048, .i1⟩
  | 17 => ⟨S1x4x2048x2048, .i1⟩
  | 18 => ⟨S1x4x4x2048x2048, .i1⟩
  | 19 => ⟨S1x16x2048x2048, .i1⟩
  | 20 => ⟨S1x4x4x2048x128, .f32⟩
  | 21 => ⟨S1x16x2048x128, .f32⟩
  | 22 => ⟨S1x4x4x2048x128, .f32⟩
  | 23 => ⟨S1x16x2048x128, .f32⟩
  | 24 => ⟨S1x16x2048x2048, .f32⟩
  | 25 => ⟨S_, .f32⟩
  | 26 => ⟨S1x16x2048x2048, .f32⟩
  | 27 => ⟨S1x16x2048x2048, .f32⟩
  | 28 => ⟨S_, .f32⟩
  | 29 => ⟨S_, .f32⟩
  | 30 => ⟨S1x16x2048x2048, .f32⟩
  | 31 => ⟨S1x16x2048x2048, .f32⟩
  | 32 => ⟨S_, .f32⟩
  | 33 => ⟨S1x16x2048, .f32⟩
  | 34 => ⟨S_, .f32⟩
  | 35 => ⟨S1x16x2048, .f32⟩
  | 36 => ⟨S1x16x2048, .f32⟩
  | 37 => ⟨S1x16x2048x1, .f32⟩
  | 38 => ⟨S1x16x2048x2048, .f32⟩
  | 39 => ⟨S1x16x2048x2048, .f32⟩
  | 40 => ⟨S1x16x2048x2048, .f32⟩
  | 41 => ⟨S_, .f32⟩
  | 42 => ⟨S1x16x2048, .f32⟩
  | 43 => ⟨S1x16x2048x1, .f32⟩
  | 44 => ⟨S1x16x2048x2048, .f32⟩
  | 45 => ⟨S1x16x2048x2048, .f32⟩
  | 46 => ⟨S1x16x2048x128, .f32⟩
  | 47 => ⟨S1x2048x16x128, .f32⟩
  | 48 => ⟨S1x2048x2048, .f32⟩
  | 49 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_cst_0 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_values : Ref sig .tc := ⟨.hbm, 79, rfl⟩
abbrev main_indices : Ref sig .tc := ⟨.hbm, 80, rfl⟩
abbrev main_c : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_c_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_c_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_14 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_15 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_17 : Ref sig .tc := ⟨.hbm, 153, rfl⟩
abbrev main_v120 : Ref sig .tc := ⟨.hbm, 154, rfl⟩
abbrev main_v121 : Ref sig .tc := ⟨.hbm, 155, rfl⟩
abbrev main_cst_18 : Ref sig .tc := ⟨.hbm, 156, rfl⟩
abbrev main_call0_v0 : Ref sig .tc := ⟨.hbm, 157, rfl⟩
abbrev main_call0_v1 : Ref sig .tc := ⟨.hbm, 158, rfl⟩
abbrev main_v122 : Ref sig .tc := ⟨.hbm, 159, rfl⟩
abbrev main_cst_19 : Ref sig .tc := ⟨.hbm, 160, rfl⟩
abbrev main_v123 : Ref sig .tc := ⟨.hbm, 161, rfl⟩
abbrev main_cst_20 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_21 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩

abbrev nD : Nat := 1
abbrev τ : Topo := Topo.v7x

variable {F : FTy → Type} [FloatOps F]
-- ==== Proof.KI.Gate.lean ====
/-
The gate of the projection call: what its last grid point computes from the rotated queries and the keys.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chosen set as the last grid point computes it, as three index vectors, from the rotated queries `v169` and the keys `kc`. -/
def gateIdx (v169 : FVec F S512x2048 .f32) (kc : Vec F S2048x512 .f32) :
    Σ' (v1879 : IVec S8x128 32) (v2412 : IVec S8x128 32), IVec S8x128 32 :=
  let v240 : Vec F S128x128 .f32 := View.ld kc (Rect.unit (s := S2048x512) ![0, 0] S128x128.size inb_S2048x512_S128x128_0_0)
  let v265 : Vec F S128x128 .f32 := View.ld kc (Rect.unit (s := S2048x512) ![128, 0] S128x128.size inb_S2048x512_S128x128_128_0)
  let v226 : FVec F S1x2048 .f32 := k0_pay5 v169
  let v239 : FVec F S1x128 .f32 := k0_pay6 v169
  let v264 : F .f32 := k0_pay7 v169 v240
  let v266 : FVec F S128x128 .f32 := k0_pay8 v265
  let v290 : Vec F S128x128 .f32 := View.ld kc (Rect.unit (s := S2048x512) ![256, 0] S128x128.size inb_S2048x512_S128x128_256_0)
  let v289 : F .f32 := k0_pay9 v239 v266
  let v307 : F .f32 := k0_pay11 v239 v290
  let v311 : FVec F S1x1x1 .f32 := k0_pay12 v239 v290
  let v315 : Vec F S128x128 .f32 := View.ld kc (Rect.unit (s := S2048x512) ![384, 0] S128x128.size inb_S2048x512_S128x128_384_0)
  let v340 : Vec F S128x128 .f32 := View.ld kc (Rect.unit (s := S2048x512) ![512, 0] S128x128.size inb_S2048x512_S128x128_512_0)
  let v314 : F .f32 := k0_pay13 v307 v311
  let v339 : F .f32 := k0_pay14 v239 v315
  let v351 : FVec F S1x128 .f32 := k0_pay16 v340
  let v355 : FVec F S1x1x1 .f32 := k0_pay17 v239 v340
  let v365 : Vec F S128x128 .f32 := View.ld kc (Rect.unit (s := S2048x512) ![640, 0] S128x128.size inb_S2048x512_S128x128_640_0)
  let v390 : Vec F S128x128 .f32 := View.ld kc (Rect.unit (s := S2048x512) ![768, 0] S128x128.size inb_S2048x512_S128x128_768_0)
  let v364 : F .f32 := k0_pay18 v239 v351 v355
  let v389 : F .f32 := k0_pay19 v239 v365
  let v397 : FVec F S1x128 .f32 := k0_pay21 v390
  let v398 : FVec F S1x128 .bf16 := k0_pay22 v390
  let v415 : Vec F S128x128 .f32 := View.ld kc (Rect.unit (s := S2048x512) ![896, 0] S128x128.size inb_S2048x512_S128x128_896_0)
  let v440 : Vec F S128x128 .f32 := View.ld kc (Rect.unit (s := S2048x512) ![1024, 0] S128x128.size inb_S2048x512_S128x128_1024_0)
  let v414 : F .f32 := k0_pay23 v239 v397 v398
  let v439 : F .f32 := k0_pay24 v239 v415
  let v441 : FVec F S128x128 .f32 := k0_pay25 v440
  let v442 : FVec F S128 .f32 := k0_pay26 v440
  let v465 : Vec F S128x128 .f32 := View.ld kc (Rect.unit (s := S2048x512) ![1152, 0] S128x128.size inb_S2048x512_S128x128_1152_0)
  let v464 : F .f32 := k0_pay27 v239 v441 v442
  let v482 : F .f32 := k0_pay29 v239 v465
  let v487 : F .f32 := k0_pay30 v239 v465
  let cst_134 : F .f32 := Scalar.ofBits .f32 0x3F000000#32
  let v490 : Vec F S128x128 .f32 := View.ld kc (Rect.unit (s := S2048x512) ![1280, 0] S128x128.size inb_S2048x512_S128x128_1280_0)
  let v515 : Vec F S128x128 .f32 := View.ld kc (Rect.unit (s := S2048x512) ![1408, 0] S128x128.size inb_S2048x512_S128x128_1408_0)
  let v489 : F .f32 := k0_pay31 v482 v487 cst_134
  let v514 : F .f32 := k0_pay32 v239 v490
  let v526 : FVec F S1x128 .f32 := k0_pay34 v515
  let v531 : F .f32 := k0_pay35 v239 v515
  let cst_148 : F .f32 := Scalar.ofBits .f32 0x3F000000#32
  let v540 : Vec F S128x128 .f32 := View.ld kc (Rect.unit (s := S2048x512) ![1536, 0] S128x128.size inb_S2048x512_S128x128_1536_0)
  let v565 : Vec F S128x128 .f32 := View.ld kc (Rect.unit (s := S2048x512) ![1664, 0] S128x128.size inb_S2048x512_S128x128_1664_0)
  let v539 : F .f32 := k0_pay36 v239 v526 v531 cst_148
  let v564 : F .f32 := k0_pay37 v239 v540
  let v574 : FVec F S1x128 .f32 := k0_pay39 v565
  let v575 : FVec F S1x128 .bf16 := k0_pay40 v565
  let v590 : Vec F S128x128 .f32 := View.ld kc (Rect.unit (s := S2048x512) ![1792, 0] S128x128.size inb_S2048x512_S128x128_1792_0)
  let v615 : Vec F S128x128 .f32 := View.ld kc (Rect.unit (s := S2048x512) ![1920, 0] S128x128.size inb_S2048x512_S128x128_1920_0)
  let v589 : F .f32 := k0_pay41 v239 v574 v575
  let v614 : F .f32 := k0_pay42 v239 v590
  let v616 : FVec F S128x128 .f32 := k0_pay43 v615
  let v618 : FVec F S1x128 .f32 := k0_pay44 v615
  let cst_177 : F .f32 := Scalar.ofBits .f32 0x43000000#32
  let v653 : Vec F S128x128 .f32 := View.ld kc (Rect.unit (s := S2048x512) ![0, 128] S128x128.size inb_S2048x512_S128x128_0_128)
  let v639 : F .f32 := k0_pay45 v239 v616 v618 cst_177
  let v652 : FVec F S1x128 .f32 := k0_pay46 v226
  let v664 : FVec F S1x128 .f32 := k0_pay48 v653
  let v666 : FVec F S1x1x128 .f32 := k0_pay49 v226 v653
  let v678 : Vec F S128x128 .f32 := View.ld kc (Rect.unit (s := S2048x512) ![128, 128] S128x128.size inb_S2048x512_S128x128_128_128)
  let v703 : Vec F S128x128 .f32 := View.ld kc (Rect.unit (s := S2048x512) ![256, 128] S128x128.size inb_S2048x512_S128x128_256_128)
  let v677 : F .f32 := k0_pay50 v652 v664 v666
  let v702 : F .f32 := k0_pay51 v652 v678
  let v704 : FVec F S128x128 .f32 := k0_pay52 v703
  let v708 : FVec F S1x128 .f32 := k0_pay53 v703
  let v728 : Vec F S128x128 .f32 := View.ld kc (Rect.unit (s := S2048x512) ![384, 128] S128x128.size inb_S2048x512_S128x128_384_128)
  let v753 : Vec F S128x128 .f32 := View.ld kc (Rect.unit (s := S2048x512) ![512, 128] S128x128.size inb_S2048x512_S128x128_512_128)
  let v727 : F .f32 := k0_pay54 v652 v704 v708
  let v752 : F .f32 := k0_pay55 v652 v728
  let v778 : Vec F S128x128 .f32 := View.ld kc (Rect.unit (s := S2048x512) ![640, 128] S128x128.size inb_S2048x512_S128x128_640_128)
  let v777 : F .f32 := k0_pay56 v652 v753
  let v795 : F .f32 := k0_pay58 v652 v778
  let v798 : FVec F S1 .f32 := k0_pay59 v652 v778
  let v803 : Vec F S128x128 .f32 := View.ld kc (Rect.unit (s := S2048x512) ![768, 128] S128x128.size inb_S2048x512_S128x128_768_128)
  let v828 : Vec F S128x128 .f32 := View.ld kc (Rect.unit (s := S2048x512) ![896, 128] S128x128.size inb_S2048x512_S128x128_896_128)
  let v802 : F .f32 := k0_pay60 v795 v798
  let v827 : F .f32 := k0_pay61 v652 v803
  let v839 : FVec F S1x128 .f32 := k0_pay63 v828
  let v842 : FVec F S1 .f32 := k0_pay64 v652 v828
  let v853 : Vec F S128x128 .f32 := View.ld kc (Rect.unit (s := S2048x512) ![1024, 128] S128x128.size inb_S2048x512_S128x128_1024_128)
  let v878 : Vec F S128x128 .f32 := View.ld kc (Rect.unit (s := S2048x512) ![1152, 128] S128x128.size inb_S2048x512_S128x128_1152_128)
  let v852 : F .f32 := k0_pay65 v652 v839 v842
  let v877 : F .f32 := k0_pay66 v652 v853
  let v883 : FVec F S1x128 .f32 := k0_pay68 v878
  let v885 : FVec F S1x128 .f32 := k0_pay69 v878
  let v903 : Vec F S128x128 .f32 := View.ld kc (Rect.unit (s := S2048x512) ![1280, 128] S128x128.size inb_S2048x512_S128x128_1280_128)
  let v928 : Vec F S128x128 .f32 := View.ld kc (Rect.unit (s := S2048x512) ![1408, 128] S128x128.size inb_S2048x512_S128x128_1408_128)
  let v902 : F .f32 := k0_pay70 v652 v883 v885
  let v927 : F .f32 := k0_pay71 v652 v903
  let v929 : FVec F S128x128 .f32 := k0_pay72 v928
  let v953 : Vec F S128x128 .f32 := View.ld kc (Rect.unit (s := S2048x512) ![1536, 128] S128x128.size inb_S2048x512_S128x128_1536_128)
  let v952 : F .f32 := k0_pay73 v652 v929
  let v970 : F .f32 := k0_pay75 v652 v953
  let v975 : F .f32 := k0_pay76 v652 v953
  let v978 : Vec F S128x128 .f32 := View.ld kc (Rect.unit (s := S2048x512) ![1664, 128] S128x128.size inb_S2048x512_S128x128_1664_128)
  let v1003 : Vec F S128x128 .f32 := View.ld kc (Rect.unit (s := S2048x512) ![1792, 128] S128x128.size inb_S2048x512_S128x128_1792_128)
  let v977 : F .f32 := k0_pay77 v970 v975
  let v1002 : F .f32 := k0_pay78 v652 v978
  let v1014 : FVec F S1x128 .f32 := k0_pay80 v1003
  let v1019 : F .f32 := k0_pay81 v652 v1003
  let v1028 : Vec F S128x128 .f32 := View.ld kc (Rect.unit (s := S2048x512) ![1920, 128] S128x128.size inb_S2048x512_S128x128_1920_128)
  let v1027 : F .f32 := k0_pay82 v652 v1014 v1019
  let v1052 : F .f32 := k0_pay83 v652 v1028
  let v1065 : FVec F S1x128 .f32 := k0_pay84 v226
  let v1066 : Vec F S128x128 .f32 := View.ld kc (Rect.unit (s := S2048x512) ![0, 256] S128x128.size inb_S2048x512_S128x128_0_256)
  let v1091 : Vec F S128x128 .f32 := View.ld kc (Rect.unit (s := S2048x512) ![128, 256] S128x128.size inb_S2048x512_S128x128_128_256)
  let v1090 : F .f32 := k0_pay85 v1065 v1066
  let v1108 : F .f32 := k0_pay87 v1065 v1091
  let v1109 : FVec F S1x128 .f32 := k0_pay88 v1065 v1091
  let v1116 : Vec F S128x128 .f32 := View.ld kc (Rect.unit (s := S2048x512) ![256, 256] S128x128.size inb_S2048x512_S128x128_256_256)
  let v1141 : Vec F S128x128 .f32 := View.ld kc (Rect.unit (s := S2048x512) ![384, 256] S128x128.size inb_S2048x512_S128x128_384_256)
  let v1115 : F .f32 := k0_pay89 v1108 v1109
  let v1140 : F .f32 := k0_pay90 v1065 v1116
  let v1152 : FVec F S1x128 .f32 := k0_pay92 v1141
  let v1153 : FVec F S1x128 .f32 := k0_pay93 v1065 v1141
  let v1166 : Vec F S128x128 .f32 := View.ld kc (Rect.unit (s := S2048x512) ![512, 256] S128x128.size inb_S2048x512_S128x128_512_256)
  let v1191 : Vec F S128x128 .f32 := View.ld kc (Rect.unit (s := S2048x512) ![640, 256] S128x128.size inb_S2048x512_S128x128_640_256)
  let v1165 : F .f32 := k0_pay94 v1065 v1152 v1153
  let v1190 : F .f32 := k0_pay95 v1065 v1166
  let v1192 : FVec F S128x128 .f32 := k0_pay96 v1191
  let v1196 : FVec F S1x128 .f32 := k0_pay97 v1191
  let v1216 : Vec F S128x128 .f32 := View.ld kc (Rect.unit (s := S2048x512) ![768, 256] S128x128.size inb_S2048x512_S128x128_768_256)
  let v1215 : F .f32 := k0_pay98 v1065 v1192 v1196
  let v1240 : F .f32 := k0_pay99 v1065 v1216
  let v1241 : Vec F S128x128 .f32 := View.ld kc (Rect.unit (s := S2048x512) ![896, 256] S128x128.size inb_S2048x512_S128x128_896_256)
  let v1266 : Vec F S128x128 .f32 := View.ld kc (Rect.unit (s := S2048x512) ![1024, 256] S128x128.size inb_S2048x512_S128x128_1024_256)
  let v1265 : F .f32 := k0_pay100 v1065 v1241
  let v1283 : F .f32 := k0_pay102 v1065 v1266
  let v1285 : FVec F S1x1x128 .f32 := k0_pay103 v1065 v1266
  let v1291 : Vec F S128x128 .f32 := View.ld kc (Rect.unit (s := S2048x512) ![1152, 256] S128x128.size inb_S2048x512_S128x128_1152_256)
  let v1316 : Vec F S128x128 .f32 := View.ld kc (Rect.unit (s := S2048x512) ![1280, 256] S128x128.size inb_S2048x512_S128x128_1280_256)
  let v1290 : F .f32 := k0_pay104 v1283 v1285
  let v1315 : F .f32 := k0_pay105 v1065 v1291
  let v1327 : FVec F S1x128 .f32 := k0_pay107 v1316
  let v1329 : FVec F S1x1x128 .f32 := k0_pay108 v1065 v1316
  let v1341 : Vec F S128x128 .f32 := View.ld kc (Rect.unit (s := S2048x512) ![1408, 256] S128x128.size inb_S2048x512_S128x128_1408_256)
  let v1366 : Vec F S128x128 .f32 := View.ld kc (Rect.unit (s := S2048x512) ![1536, 256] S128x128.size inb_S2048x512_S128x128_1536_256)
  let v1340 : F .f32 := k0_pay109 v1065 v1327 v1329
  let v1365 : F .f32 := k0_pay110 v1065 v1341
  let v1371 : FVec F S1x128 .f32 := k0_pay112 v1366
  let v1372 : FVec F S128 .f32 := k0_pay113 v1366
  let v1391 : Vec F S128x128 .f32 := View.ld kc (Rect.unit (s := S2048x512) ![1664, 256] S128x128.size inb_S2048x512_S128x128_1664_256)
  let v1416 : Vec F S128x128 .f32 := View.ld kc (Rect.unit (s := S2048x512) ![1792, 256] S128x128.size inb_S2048x512_S128x128_1792_256)
  let v1390 : F .f32 := k0_pay114 v1065 v1371 v1372
  let v1415 : F .f32 := k0_pay115 v1065 v1391
  let v1417 : FVec F S128x128 .f32 := k0_pay116 v1416
  let v1441 : Vec F S128x128 .f32 := View.ld kc (Rect.unit (s := S2048x512) ![1920, 256] S128x128.size inb_S2048x512_S128x128_1920_256)
  let v1440 : F .f32 := k0_pay117 v1065 v1417
  let v1458 : F .f32 := k0_pay119 v1065 v1441
  let v1462 : FVec F S1x1x1 .f32 := k0_pay120 v1065 v1441
  let v1479 : Vec F S128x128 .f32 := View.ld kc (Rect.unit (s := S2048x512) ![0, 384] S128x128.size inb_S2048x512_S128x128_0_384)
  let v1504 : Vec F S128x128 .f32 := View.ld kc (Rect.unit (s := S2048x512) ![128, 384] S128x128.size inb_S2048x512_S128x128_128_384)
  let v1465 : F .f32 := k0_pay121 v1458 v1462
  let v1478 : FVec F S1x128 .f32 := k0_pay122 v226
  let v1503 : F .f32 := k0_pay123 v226 v1479
  let v1505 : FVec F S128x128 .f32 := k0_pay124 v1504
  let v1507 : FVec F S1x128 .f32 := k0_pay125 v1504
  let v1529 : Vec F S128x128 .f32 := View.ld kc (Rect.unit (s := S2048x512) ![256, 384] S128x128.size inb_S2048x512_S128x128_256_384)
  let v1528 : F .f32 := k0_pay126 v1478 v1505 v1507
  let v1546 : F .f32 := k0_pay128 v1478 v1529
  let v1552 : F .f32 := k0_pay129 v1478 v1529
  let v1554 : Vec F S128x128 .f32 := View.ld kc (Rect.unit (s := S2048x512) ![384, 384] S128x128.size inb_S2048x512_S128x128_384_384)
  let v1579 : Vec F S128x128 .f32 := View.ld kc (Rect.unit (s := S2048x512) ![512, 384] S128x128.size inb_S2048x512_S128x128_512_384)
  let v1553 : F .f32 := k0_pay130 v1546 v1552
  let v1578 : F .f32 := k0_pay131 v1478 v1554
  let v1590 : FVec F S1x128 .f32 := k0_pay133 v1579
  let v1596 : F .f32 := k0_pay134 v1478 v1579
  let v1604 : Vec F S128x128 .f32 := View.ld kc (Rect.unit (s := S2048x512) ![640, 384] S128x128.size inb_S2048x512_S128x128_640_384)
  let v1629 : Vec F S128x128 .f32 := View.ld kc (Rect.unit (s := S2048x512) ![768, 384] S128x128.size inb_S2048x512_S128x128_768_384)
  let v1603 : F .f32 := k0_pay135 v1478 v1590 v1596
  let v1628 : F .f32 := k0_pay136 v1478 v1604
  let v1638 : FVec F S1x128 .f32 := k0_pay138 v1629
  let v1640 : FVec F S1x128 .f32 := k0_pay139 v1629
  let v1654 : Vec F S128x128 .f32 := View.ld kc (Rect.unit (s := S2048x512) ![896, 384] S128x128.size inb_S2048x512_S128x128_896_384)
  let v1679 : Vec F S128x128 .f32 := View.ld kc (Rect.unit (s := S2048x512) ![1024, 384] S128x128.size inb_S2048x512_S128x128_1024_384)
  let v1653 : F .f32 := k0_pay140 v1478 v1638 v1640
  let v1678 : F .f32 := k0_pay141 v1478 v1654
  let v1680 : FVec F S128x128 .f32 := k0_pay142 v1679
  let v1682 : FVec F S1x128 .f32 := k0_pay143 v1679
  let v1683 : FVec F S1x128 .f32 := k0_pay144 (F := F)
  let v1704 : Vec F S128x128 .f32 := View.ld kc (Rect.unit (s := S2048x512) ![1152, 384] S128x128.size inb_S2048x512_S128x128_1152_384)
  let v1703 : F .f32 := k0_pay145 v1478 v1680 v1682 v1683
  let v1728 : F .f32 := k0_pay146 v1478 v1704
  let v1729 : Vec F S128x128 .f32 := View.ld kc (Rect.unit (s := S2048x512) ![1280, 384] S128x128.size inb_S2048x512_S128x128_1280_384)
  let v1754 : Vec F S128x128 .f32 := View.ld kc (Rect.unit (s := S2048x512) ![1408, 384] S128x128.size inb_S2048x512_S128x128_1408_384)
  let v1753 : F .f32 := k0_pay147 v1478 v1729
  let v1771 : F .f32 := k0_pay149 v1478 v1754
  let v1773 : FVec F S1x1x128 .f32 := k0_pay150 v1478 v1754
  let v1779 : Vec F S128x128 .f32 := View.ld kc (Rect.unit (s := S2048x512) ![1536, 384] S128x128.size inb_S2048x512_S128x128_1536_384)
  let v1804 : Vec F S128x128 .f32 := View.ld kc (Rect.unit (s := S2048x512) ![1664, 384] S128x128.size inb_S2048x512_S128x128_1664_384)
  let v1778 : F .f32 := k0_pay151 v1771 v1773
  let v1803 : F .f32 := k0_pay152 v1478 v1779
  let v1815 : FVec F S1x128 .f32 := k0_pay154 v1804
  let v1817 : FVec F S1x1x128 .f32 := k0_pay155 v1478 v1804
  let v1829 : Vec F S128x128 .f32 := View.ld kc (Rect.unit (s := S2048x512) ![1792, 384] S128x128.size inb_S2048x512_S128x128_1792_384)
  let v1854 : Vec F S128x128 .f32 := View.ld kc (Rect.unit (s := S2048x512) ![1920, 384] S128x128.size inb_S2048x512_S128x128_1920_384)
  let v1828 : F .f32 := k0_pay156 v1478 v1815 v1817
  let v1853 : F .f32 := k0_pay157 v1478 v1829
  let v1855 : FVec F S128x128 .f32 := k0_pay158 v1854
  let v1859 : FVec F S1x128 .f32 := k0_pay159 v1854
  let v1878 : F .f32 := k0_pay160 v1478 v1855 v1859
  let v1879 : IVec S8x128 32 := iota .tc S8x128 32 [1] iota_S8x128_d1_w32
  let v1880 : IVec S8x128 32 := iota .tc S8x128 32 [0] iota_S8x128_d0_w32
  let v1902 : FVec F S8x128 .f32 := k0_pay161 v264 v289 v314
  let v1904 : IVec S8x128 1 := k0_pay162
  let v1906 : IVec S8x128 1 := k0_pay163
  let v1951 : FVec F S8x128 .f32 := k0_pay164 v339 v364 v389 v414 v439 v464 v489 v1879 v1880 v1902 v1904 v1906
  let v1953 : IVec S8x128 1 := k0_pay165 v1880
  let v2000 : FVec F S8x128 .f32 := k0_pay166 v514 v539 v564 v589 v614 v639 v677 v1879 v1880 v1951 v1953
  let v2042 : FVec F S8x128 .f32 := k0_pay167 v702 v727 v752 v777 v802 v827 v1879 v1880 v2000
  let v2044 : IVec S8x128 1 := k0_pay168 v1880
  let v2046 : IVec S8x128 1 := k0_pay169 v1879
  let v2091 : FVec F S8x128 .f32 := k0_pay170 v852 v877 v902 v927 v952 v977 v1002 v1879 v1880 v2042 v2044 v2046
  let v2093 : IVec S8x128 1 := k0_pay171 v1880
  let v2140 : FVec F S8x128 .f32 := k0_pay172 v1027 v1052 v1090 v1115 v1140 v1165 v1190 v1879 v1880 v2091 v2093
  let v2182 : FVec F S8x128 .f32 := k0_pay173 v1215 v1240 v1265 v1290 v1315 v1340 v1879 v1880 v2140
  let v2184 : IVec S8x128 1 := k0_pay174 v1880
  let v2186 : IVec S8x128 1 := k0_pay175 v1879
  let v2231 : FVec F S8x128 .f32 := k0_pay176 v1365 v1390 v1415 v1440 v1465 v1503 v1528 v1879 v1880 v2182 v2184 v2186
  let v2233 : IVec S8x128 1 := k0_pay177 v1880
  let v2280 : FVec F S8x128 .f32 := k0_pay178 v1553 v1578 v1603 v1628 v1653 v1678 v1703 v1879 v1880 v2231 v2233
  let v2322 : FVec F S8x128 .f32 := k0_pay179 v1728 v1753 v1778 v1803 v1828 v1853 v1879 v1880 v2280
  let v2324 : IVec S8x128 1 := k0_pay180 v1880
  let v2326 : IVec S8x128 1 := k0_pay181 v1879
  let v2358 : FVec F S8x128 .f32 := k0_pay186 v1878 v1879 v2322 v2324 v2326
  let v2368 : IVec S8x128 1 := k0_pay187 v1878 v1879 v2322 v2324 v2326
  let v2370 : IVec S8x128 32 := k0_pay188 v1878 v1879 v2322 v2324 v2326
  let cst_750 : F .f32 := Scalar.ofBits .f32 0xFF800000#32
  let v2412 : IVec S8x128 32 := k0_pay195 v1879 v2358 v2368 v2370 cst_750
  let v2414 : FVec F S8x128 .f32 := k0_pay196 v1879 v2358 v2368 cst_750
  ⟨v1879, v2412, k0_pay197 v1879 v2414⟩

set_option maxHeartbeats 4000000 in
/-- The gate's part of the body reads the key window only, and returns `gateIdx` of the queries it is given and the keys held there. -/
theorem gate_part (c : Dev nD) (E : Set ℕ) (i : grid0.Coords) (arg1 : Memref sig .tc .vmem S512x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S512x512 .f32) (harg12 : arg12.IsWhole) (arg13 : Memref sig .tc .vmem S8x2048 .f32) (harg13 : arg13.IsWhole) (v169 : FVec F S512x2048 .f32)
    (f : (arg11.view).ty.Contents (Elt F)) :
    (arg11.view.loc (c : Thread nD τ) ↦[arg11.view.set]{fullShare} f : sProp 𝕄)
      ⊢ wp frame (wpE (defs₀ (F := F)) Variants.none c none) E (k0_part50 i arg1 harg1 arg2 harg2 arg3 harg3 arg4 harg4 arg5 harg5 arg6 harg6 arg7 harg7 arg8 harg8 arg9 harg9 arg10 harg10 arg11 harg11 arg12 harg12 arg13 harg13 v169)
          (fun r => iprop(⌜r = gateIdx v169 (arg11.view.read (Elt F) f)⌝ ∗ arg11.view.loc (c : Thread nD τ) ↦[arg11.view.set]{fullShare} f)) := by
  simp only [k0_part50_eq_skeleton]; unfold k0_part50_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
  iintro H
  sl_exec
  sl_step
  isplitr
  · ipureintro; rfl
  iexact H

end Cert.Proof.KI

end
-- ==== Proof.KI.R0.lean ====
/-
Region 0, the projection call: what its body leaves, the data its pipeline is proved with, and the body obligation. The key window is carried from point to point with rows not yet written holding anything, so it is held to a predicate.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Gate
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.VecWindow
public import Idealize.ShloMosaic.Lib.Pipeline.DatRel
public import Idealize.ShloMosaic.Lib.Pipeline.ArrRel

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rotated queries the body stores, from the blocks it loads: the activations `x0`, the weights `x1`, the bias `x4`, the cosines `x7` and the sines `x8`. -/
def qOut (x0 : Vec F S512x2048 .f32) (x1 : Vec F S2048x2048 .f32) (x4 : Vec F S1x2048 .f32) (x7 x8 : Vec F S512x128 .f32) : FVec F S512x2048 .f32 :=
  let v0 := View.ld x0 (Rect.unit (s := S512x2048) ![0, 0] S512x2048.size inb_S512x2048_S512x2048_0_0)
  let v2 := View.ld x7 (Rect.unit (s := S512x128) ![0, 0] S512x128.size inb_S512x128_S512x128_0_0)
  let v4 := View.ld x8 (Rect.unit (s := S512x128) ![0, 0] S512x128.size inb_S512x128_S512x128_0_0)
  let v6 := View.ld x1 (Rect.unit (s := S2048x2048) ![0, 0] S2048x2048.size inb_S2048x2048_S2048x2048_0_0)
  let v8 := View.ld x4 (Rect.unit (s := S1x2048) ![0, 0] S1x2048.size inb_S1x2048_S1x2048_0_0)
  let v3 := k0_pay199 v2
  let v5 := k0_pay200 v4
  let v11 := k0_pay201 v0 v6 v8
  k0_pay217 v3 v5 v11 (k0_pay204 v0 v2 v4 v6 v8) (k0_pay205 v3 v5 v11) (k0_pay206 v3 v5 v11) (k0_pay207 v3 v5 v11) (k0_pay208 v3 v5 v11) (k0_pay209 v3 v5 v11) (k0_pay210 v3 v5 v11) (k0_pay211 v3 v5 v11) (k0_pay212 v3 v5 v11) (k0_pay213 v3 v5 v11) (k0_pay214 v3 v5 v11) (k0_pay215 v3 v5 v11) (k0_pay216 v3 v5 v11)

/-- The values the body stores. -/
def vOut (x0 : Vec F S512x2048 .f32) (x3 : Vec F S2048x512 .f32) (x6 : Vec F S1x512 .f32) : FVec F S512x512 .f32 :=
  k0_pay203 (View.ld x0 (Rect.unit (s := S512x2048) ![0, 0] S512x2048.size inb_S512x2048_S512x2048_0_0)) (View.ld x3 (Rect.unit (s := S2048x512) ![0, 0] S2048x512.size inb_S2048x512_S2048x512_0_0)) (View.ld x6 (Rect.unit (s := S1x512) ![0, 0] S1x512.size inb_S1x512_S1x512_0_0))

/-- The keys before the rotation. -/
def kLin (x0 : Vec F S512x2048 .f32) (x2 : Vec F S2048x512 .f32) (x5 : Vec F S1x512 .f32) : FVec F S512x512 .f32 :=
  k0_pay202 (View.ld x0 (Rect.unit (s := S512x2048) ![0, 0] S512x2048.size inb_S512x2048_S512x2048_0_0)) (View.ld x2 (Rect.unit (s := S2048x512) ![0, 0] S2048x512.size inb_S2048x512_S2048x512_0_0)) (View.ld x5 (Rect.unit (s := S1x512) ![0, 0] S1x512.size inb_S1x512_S1x512_0_0))

/-- The cosines and the sines as the body broadcasts them. -/
def cosOf (x7 : Vec F S512x128 .f32) : FVec F S512x128 .f32 := k0_pay199 (View.ld x7 (Rect.unit (s := S512x128) ![0, 0] S512x128.size inb_S512x128_S512x128_0_0))
@[inherit_doc cosOf] def sinOf (x8 : Vec F S512x128 .f32) : FVec F S512x128 .f32 := k0_pay200 (View.ld x8 (Rect.unit (s := S512x128) ![0, 0] S512x128.size inb_S512x128_S512x128_0_0))

/-- The four head slices of the rotated keys, as the body stores them. -/
def kPiece (x0 : Vec F S512x2048 .f32) (x2 : Vec F S2048x512 .f32) (x5 : Vec F S1x512 .f32) (x7 x8 : Vec F S512x128 .f32) : Fin 4 → FVec F S512x128 .f32
  | 0 => k0_pay218 (cosOf x7) (sinOf x8) (kLin x0 x2 x5)
  | 1 => k0_pay1 (k0_pay220 (cosOf x7) (kLin x0 x2 x5)) (k0_pay221 (sinOf x8) (kLin x0 x2 x5))
  | 2 => k0_pay2 (cosOf x7) (sinOf x8) (kLin x0 x2 x5)
  | 3 => k0_pay3 (cosOf x7) (sinOf x8) (kLin x0 x2 x5)

/-- The key window `y` with the four slices `p` put at the rows of grid point `i`. -/
def kPut (i : grid0.Coords) (p : Fin 4 → FVec F S512x128 .f32) (y : Vec F S2048x512 .f32) : Vec F S2048x512 .f32 :=
  VecWindow.put (VecWindow.put (VecWindow.put (VecWindow.put y (k0_off1 i) S512x128.size (p 0)) (k0_off2 i) S512x128.size (p 1))
    (k0_off3 i) S512x128.size (p 2)) (k0_off4 i) S512x128.size (p 3)

/-- The gate the body stores, of its rotated queries and the whole keys. -/
def gateOut (q : FVec F S512x2048 .f32) (k : Vec F S2048x512 .f32) : FVec F S8x2048 .f32 :=
  k0_pay4 (gateIdx q k).1 (gateIdx q k).2.1 (gateIdx q k).2.2

/-- The stored gate, of the three index vectors once they are known. -/
theorem gateOut_of {a b d : IVec S8x128 32} {q q' : FVec F S512x2048 .f32} {k k' : Vec F S2048x512 .f32}
    (h : (⟨a, b, d⟩ : Σ' (v1879 : IVec S8x128 32) (v2412 : IVec S8x128 32), IVec S8x128 32) = gateIdx q k) (hq : q = q') (hk : k = k') :
    k0_pay4 (F := F) a b d = gateOut q' k' := by
  subst hq hk; unfold gateOut; rw [← h]

/-- An index of a row and a column. -/
def ix (R C : ℕ) (r c : ℕ) (hr : r < R) (hc : c < C) : Shape.Idx ⟨2, ![R, C]⟩ :=
  fun a => match a with | ⟨0, _⟩ => ⟨r, hr⟩ | ⟨1, _⟩ => ⟨c, hc⟩

theorem row_lt {R C : ℕ} (y : Shape.Idx ⟨2, ![R, C]⟩) : (y 0).val < R := (y 0).isLt
theorem col_lt {R C : ℕ} (y : Shape.Idx ⟨2, ![R, C]⟩) : (y 1).val < C := (y 1).isLt

/-- Four slices of 128 columns side by side. -/
def kCat (p : Fin 4 → FVec F S512x128 .f32) : FVec F S512x512 .f32 := fun y =>
  p ⟨(y 1).val / 128, by have := col_lt y; omega⟩ (ix 512 128 (y 0).val ((y 1).val % 128) (row_lt y) (Nat.mod_lt _ (by decide)))

/-- One put of a slice, by index. -/
theorem put_slice {α : Type} (x : S2048x512.Idx → α) (r0 c0 : ℕ) (w : S512x128.Idx → α) (y : S2048x512.Idx) :
    VecWindow.put x ![r0, c0] S512x128.size w y
      = if h : (r0 ≤ (y 0).val ∧ (y 0).val < r0 + 512) ∧ (c0 ≤ (y 1).val ∧ (y 1).val < c0 + 128)
        then w (ix 512 128 ((y 0).val - r0) ((y 1).val - c0) (by omega) (by omega)) else x y := by
  unfold VecWindow.put
  by_cases h : (r0 ≤ (y 0).val ∧ (y 0).val < r0 + 512) ∧ (c0 ≤ (y 1).val ∧ (y 1).val < c0 + 128)
  · rw [dif_pos h, dif_pos (show ∀ a, (![r0, c0] : Fin 2 → ℕ) a ≤ (y a).val ∧ (y a).val < (![r0, c0] : Fin 2 → ℕ) a + S512x128.size a from
      fun a => by fin_cases a; exacts [h.1, h.2])]
    exact congrArg w (funext fun a => by fin_cases a <;> rfl)
  · rw [dif_neg h, dif_neg]
    exact fun hall => h ⟨hall 0, hall 1⟩

/-- The four puts of a point, by index: the point's rows are the slices side by side, the others are as they were. -/
theorem kPut_apply (i : grid0.Coords) (p : Fin 4 → FVec F S512x128 .f32) (x : Vec F S2048x512 .f32) (y : S2048x512.Idx) :
    kPut i p x y = if h : 512 * (i 0).val ≤ (y 0).val ∧ (y 0).val < 512 * (i 0).val + 512
      then kCat p (ix 512 512 ((y 0).val - 512 * (i 0).val) (y 1).val (by omega) (col_lt y)) else x y := by
  unfold kPut
  rw [k0_off1_eq, k0_off2_eq, k0_off3_eq, k0_off4_eq, put_slice, put_slice, put_slice, put_slice]
  have hc := col_lt y
  by_cases h : 512 * (i 0).val ≤ (y 0).val ∧ (y 0).val < 512 * (i 0).val + 512
  · rw [dif_pos h]
    unfold kCat
    have hq : (y 1).val / 128 < 4 := by omega
    have key : ∀ (j : Fin 4) (hj : (y 1).val / 128 = j.val) (c0 : ℕ) (e0 : c0 = 128 * j.val) (hlt : (y 1).val - c0 < 128),
        p j (ix 512 128 ((y 0).val - 512 * (i 0).val) ((y 1).val - c0) (by omega) hlt)
          = p ⟨(y 1).val / 128, hq⟩ (ix 512 128 ((y 0).val - 512 * (i 0).val) ((y 1).val % 128) (by omega) (Nat.mod_lt _ (by decide))) := by
      intro j hj c0 e0 hlt
      obtain rfl : j = ⟨(y 1).val / 128, hq⟩ := Fin.ext hj.symm
      congr 2
      simp only at e0; omega
    split_ifs with h3 h2 h1 h0
    · exact key 3 (by show _ = 3; omega) 384 rfl (by omega)
    · exact key 2 (by show _ = 2; omega) 256 rfl (by omega)
    · exact key 1 (by show _ = 1; omega) 128 rfl (by omega)
    · exact key 0 (by show _ = 0; omega) 0 rfl (by omega)
    · exact absurd ⟨h, (by omega : 0 ≤ (y 1).val ∧ (y 1).val < 0 + 128)⟩ h0
  · rw [dif_neg h, dif_neg (fun hh => h hh.1), dif_neg (fun hh => h hh.1), dif_neg (fun hh => h hh.1), dif_neg (fun hh => h hh.1)]

/-- Whether the body's conditional runs at grid point `i`. -/
abbrev cond0_0 (i : grid0.Coords) : Prop := k0_cond1 i = 1#1

/-- It runs at the last grid point only. -/
theorem hcond0_0 : ∀ t : Fin cfg0.N, cond0_0 (grid0.coords t) ↔ t.val % 4 = 3 := by
  intro t
  have ht : t.val < 4 := Nat.lt_of_lt_of_eq t.isLt N_0
  have e0 : (grid0.coords t 0).val = t.val / 1 % 4 := Pipeline.Grid.coords_val t 0 (by decide) rfl
  simp only [cond0_0, k0_cond1, e0]
  word_cmp

set_option maxHeartbeats 4000000 in
/-- The body at a point before the last: the queries, the values and the point's rows of the keys are stored, the gate window is not touched. -/
theorem sound_kernel0A (c : Dev nD) (E : Set ℕ) (i : grid0.Coords) (arg1 : Memref sig .tc .vmem S512x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S512x512 .f32) (harg12 : arg12.IsWhole) (arg13 : Memref sig .tc .vmem S8x2048 .f32) (harg13 : arg13.IsWhole)
    (hc0 : ¬ cond0_0 i) (x0 : Vec F S512x2048 .f32) (x1 : Vec F S2048x2048 .f32) (x2 : Vec F S2048x512 .f32) (x3 : Vec F S2048x512 .f32) (x4 : Vec F S1x2048 .f32) (x5 : Vec F S1x512 .f32) (x6 : Vec F S1x512 .f32) (x7 : Vec F S512x128 .f32) (x8 : Vec F S512x128 .f32) (y : Vec F S2048x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (qOut x0 x1 x4 x7 x8) ∗ owns (c : Thread nD τ) arg11 fullShare (kPut i (kPiece x0 x2 x5 x7 x8) y) ∗ owns (c : Thread nD τ) arg12 fullShare (vOut x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13) K := by
  simp only [cc0__proj_kernel_eq_skeleton]; unfold cc0__proj_kernel_skel
  simp only [k0_part51_eq_skeleton, k0_part52_eq_skeleton, k0_part53_eq_skeleton, k0_part54_eq_skeleton]
  unfold k0_part51_skel k0_part52_skel k0_part53_skel k0_part54_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, Hk⟩
  subst hf0 hf1 hf2 hf3 hf4 hf5 hf6 hf7 hf8 hf10
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_full _ _ _ _ _
  isplitl [H10]
  · iexists _; isplitr
    swap; · iexact H10
    ipureintro
    rw [View.read_writes_cons_put _ _ _ _ _ rfl, View.read_writes_cons_put _ _ _ _ _ rfl, View.read_writes_cons_put _ _ _ _ _ rfl, View.read_writes_cons_put _ _ _ _ _ rfl]
    rfl
  · iexists _; isplitr
    swap; · iexact H11
    ipureintro
    exact View.read_writes_full _ _ _ _ _

set_option maxHeartbeats 4000000 in
/-- The body at the last point: the gate is stored besides, of the queries and of the keys as they then are. -/
theorem sound_kernel0B (c : Dev nD) (E : Set ℕ) (i : grid0.Coords) (arg1 : Memref sig .tc .vmem S512x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x2048 .f32) (harg10 : arg10.IsWhole) (arg11 : Memref sig .tc .vmem S2048x512 .f32) (harg11 : arg11.IsWhole) (arg12 : Memref sig .tc .vmem S512x512 .f32) (harg12 : arg12.IsWhole) (arg13 : Memref sig .tc .vmem S8x2048 .f32) (harg13 : arg13.IsWhole)
    (hc0 : cond0_0 i) (x0 : Vec F S512x2048 .f32) (x1 : Vec F S2048x2048 .f32) (x2 : Vec F S2048x512 .f32) (x3 : Vec F S2048x512 .f32) (x4 : Vec F S1x2048 .f32) (x5 : Vec F S1x512 .f32) (x6 : Vec F S1x512 .f32) (x7 : Vec F S512x128 .f32) (x8 : Vec F S512x128 .f32) (y : Vec F S2048x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (qOut x0 x1 x4 x7 x8) ∗ owns (c : Thread nD τ) arg11 fullShare (kPut i (kPiece x0 x2 x5 x7 x8) y) ∗ owns (c : Thread nD τ) arg12 fullShare (vOut x0 x3 x6) ∗ owns (c : Thread nD τ) arg13 fullShare (gateOut (qOut x0 x1 x4 x7 x8) (kPut i (kPiece x0 x2 x5 x7 x8) y))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13) K := by
  have hcut := fun q f => gate_part (F := F) c E i arg1 harg1 arg2 harg2 arg3 harg3 arg4 harg4 arg5 harg5 arg6 harg6 arg7 harg7 arg8 harg8 arg9 harg9 arg10 harg10 arg11 harg11 arg12 harg12 arg13 harg13 q f
  simp only [cc0__proj_kernel_eq_skeleton]; unfold cc0__proj_kernel_skel
  simp only [k0_part51_eq_skeleton, k0_part52_eq_skeleton, k0_part53_eq_skeleton, k0_part54_eq_skeleton]
  unfold k0_part51_skel k0_part52_skel k0_part53_skel k0_part54_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, Hk⟩
  subst hf0 hf1 hf2 hf3 hf4 hf5 hf6 hf7 hf8 hf10
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_full _ _ _ _ _
  isplitl [Hk0_part50_1]
  · iexists _; isplitr
    swap; · iexact Hk0_part50_1
    ipureintro
    rw [View.read_writes_cons_put _ _ _ _ _ rfl, View.read_writes_cons_put _ _ _ _ _ rfl, View.read_writes_cons_put _ _ _ _ _ rfl, View.read_writes_cons_put _ _ _ _ _ rfl]
    rfl
  isplitl [H11]
  · iexists _; isplitr
    swap; · iexact H11
    ipureintro
    exact View.read_writes_full _ _ _ _ _
  · iexists _; isplitr
    swap; · iexact H12
    ipureintro
    refine (View.read_writes_full _ _ _ _ _).trans ?_
    exact gateOut_of hk0_part50_0 rfl (by
      rw [View.read_writes_cons_put _ _ _ _ _ rfl, View.read_writes_cons_put _ _ _ _ _ rfl, View.read_writes_cons_put _ _ _ _ _ rfl, View.read_writes_cons_put _ _ _ _ _ rfl]
      rfl)

end Cert.Proof.KI

end
-- ==== Proof.KI.D0.lean ====
/-
Region 0, the projection call: the data its pipeline is proved with and the body obligation.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.R0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point of row block `n`. -/
def pt0 (n : ℕ) (h : n < 4) : Fin cfg0.N := ⟨n, Nat.lt_of_lt_of_eq h N_0.symm⟩

/-- The queries the body stores at point `t`. -/
def qAt (c : Dev nD) (t : Fin cfg0.N) : FVec F S512x2048 .f32 :=
  qOut (iblk0 V c 0 t) (iblk0 V c 1 t) (iblk0 V c 4 t) (iblk0 V c 7 t) (iblk0 V c 8 t)

/-- The four slices of the keys it stores there. -/
def kAt (c : Dev nD) (t : Fin cfg0.N) : Fin 4 → FVec F S512x128 .f32 :=
  kPiece (iblk0 V c 0 t) (iblk0 V c 2 t) (iblk0 V c 5 t) (iblk0 V c 7 t) (iblk0 V c 8 t)

/-- The values it stores there. -/
def vAt (c : Dev nD) (t : Fin cfg0.N) : FVec F S512x512 .f32 :=
  vOut (iblk0 V c 0 t) (iblk0 V c 3 t) (iblk0 V c 6 t)

/-- The whole keys: the four points' slices, block of rows by block of rows. -/
def kFull (c : Dev nD) : Vec F S2048x512 .f32 := fun y =>
  kCat (kAt V c (pt0 ((y 0).val / 512) (by have := row_lt y; omega))) (ix 512 512 ((y 0).val % 512) (y 1).val (Nat.mod_lt _ (by decide)) (col_lt y))

/-- The gate the last point stores. -/
def gAt (c : Dev nD) (t : Fin cfg0.N) : FVec F S8x2048 .f32 := gateOut (qAt V c t) (kFull V c)

/-- A key window that agrees with the whole keys on the rows of the points before `t` does so, after the puts at `t`, on the rows up to `t`. -/
theorem kPut_step (c : Dev nD) (t : Fin cfg0.N) (X : Vec F S2048x512 .f32)
    (hX : ∀ y : S2048x512.Idx, (y 0).val < 512 * t.val → X y = kFull V c y) (y : S2048x512.Idx) (hy : (y 0).val < 512 * (t.val + 1)) :
    kPut (grid0.coords t) (kAt V c t) X y = kFull V c y := by
  have ht : t.val < 4 := Nat.lt_of_lt_of_eq t.isLt N_0
  have e0 : (grid0.coords t 0).val = t.val := (Pipeline.Grid.coords_val t 0 (by decide) rfl : _ = t.val / 1 % 4).trans (by omega)
  rw [kPut_apply]
  by_cases h : 512 * (grid0.coords t 0).val ≤ (y 0).val ∧ (y 0).val < 512 * (grid0.coords t 0).val + 512
  · rw [dif_pos h]
    rw [e0] at h
    unfold kFull
    have e : pt0 ((y 0).val / 512) (by omega) = t := Fin.ext (by show (y 0).val / 512 = t.val; omega)
    rw [e]
    congr 1
    funext a
    fin_cases a
    · exact Fin.ext (by show (y 0).val - 512 * (grid0.coords t 0).val = (y 0).val % 512; omega)
    · rfl
  · rw [dif_neg h]
    rw [e0] at h
    exact hX y (by omega)

/-- The windows the body is not exactly known in: the keys'. -/
def fgt0 : Fin cfg0.W → Bool
  | 10 => true
  | _ => false

/-- What is known of the key window after point `t`: the rows up to that point's are the whole keys'. -/
def Rl0 (c : Dev nD) : (w : Fin cfg0.W) → Fin cfg0.N → ((cfg0.win w).block.Idx → Elt F (cfg0.win w).elt) → Prop
  | 10 => fun t X => ∀ y : S2048x512.Idx, (y 0).val < 512 * (t.val + 1) → X y = kFull V c y
  | _ => fun _ _ => True

/-- The proof data of the projection's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => qAt V c t
    | ⟨10, _⟩ => kFull V c
    | ⟨11, _⟩ => vAt V c t
    | ⟨12, _⟩ => gAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = qAt V c t := by dsimp only [dat0]
theorem after0_10 (c : Dev nD) (t : Fin cfg0.N) : (dat0 V c).after 10 t = kFull V c := by dsimp only [dat0]
theorem after0_11 (c : Dev nD) (t : Fin cfg0.N) : (dat0 V c).after 11 t = vAt V c t := by dsimp only [dat0]
theorem after0_12 (c : Dev nD) (t : Fin cfg0.N) : (dat0 V c).after 12 t = gAt V c t := by dsimp only [dat0]

/-! Each input's staging buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-- What the body finds in the key window at point `t`: the rows of the points before. -/
theorem finds0_10 (c : Dev nD) (t : Fin cfg0.N) (Y : (cfg0.win 10).block.Idx → Elt F (cfg0.win 10).elt)
    (h : ((dat0 V c).toRRel fgt0 (Rl0 V c)).Finds 10 t Y) : ∀ y : S2048x512.Idx, (y 0).val < 512 * t.val → (Y : Vec F S2048x512 .f32) y = kFull V c y := by
  intro y hy
  have ht : t.val < 4 := Nat.lt_of_lt_of_eq t.isLt N_0
  by_cases h0 : t.val = 0
  · omega
  rw [Pipeline.RDat.finds_of_pos _ rfl h0] at h
  rcases h with h | h
  · rw [flush0_10] at h
    have : (t.val - 1) % 4 = 3 := h
    omega
  · have h' : Rl0 V c 10 _ Y := (dat0 V c).toRRel_leaves (fgt := fgt0) (Rl := Rl0 V c) (w := 10) rfl h
    exact h' y (by show (y 0).val < 512 * ((t.val - 1) + 1); omega)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)) ∗ (∃ d, owns (c : Thread nD τ) (st0_8 t) fullShare ((dat0 V c).before 8 t d)) ∗ (∃ d, owns (c : Thread nD τ) (st0_9 t) fullShare ((dat0 V c).before 9 t d))
    ∗ (∃ Y, ⌜((dat0 V c).toRRel fgt0 (Rl0 V c)).Finds 10 t Y⌝ ∗ owns (c : Thread nD τ) (st0_10 t) fullShare Y)
    ∗ (∃ d, owns (c : Thread nD τ) (st0_11 t) fullShare ((dat0 V c).before 11 t d)) ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t) ∗ owns (c : Thread nD τ) (st0_8 t) fullShare ((dat0 V c).after 8 t) ∗ owns (c : Thread nD τ) (st0_9 t) fullShare ((dat0 V c).after 9 t)
    ∗ (∃ X, ⌜Rl0 V c 10 t X⌝ ∗ owns (c : Thread nD τ) (st0_10 t) fullShare X)
    ∗ owns (c : Thread nD τ) (st0_11 t) fullShare ((dat0 V c).after 11 t) ∗ (dat0 V c).leaves 12 t)

set_option maxHeartbeats 2000000 in
/-- The body at any point: before the last one the gate window stays as it is found, at the last the keys are whole and the gate is theirs. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
  have hf := finds0_10 V c t Y hY
  by_cases hc : cond0_0 (grid0.coords t)
  · have h3 := (hcond0_0 t).mp hc
    have ht : t.val < 4 := Nat.lt_of_lt_of_eq t.isLt N_0
    have hi : cfg0.idle 12 (cfg0.grid.coords t) = false := by
      show (!(k0_cond1 (grid0.coords t) == 1#1)) = false
      rw [show k0_cond1 (grid0.coords t) = 1#1 from hc]; rfl
    have hk : kPut (grid0.coords t) (kAt V c t) Y = kFull V c := funext fun y => kPut_step V c t Y hf y (by have := row_lt y; omega)
    have hl : (dat0 V c).leaves 12 t = owns (c : Thread nD τ) (st0_12 t) fullShare (gAt V c t) := by
      unfold Dat.leaves; rw [hi, after0_12]
    rw [hl]
    iapply (sound_kernel0B c Set.univ (grid0.coords t) _ _ _ _ _ _ _ _ _ _ _ _ _ _ _ _ _ _ _ _ _ _ _ _ _ _ hc (iblk0 V c 0 t) (iblk0 V c 1 t) (iblk0 V c 2 t) (iblk0 V c 3 t) (iblk0 V c 4 t) (iblk0 V c 5 t) (iblk0 V c 6 t) (iblk0 V c 7 t) (iblk0 V c 8 t) Y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap; · iexact H10
      ipureintro; exact kPut_step V c t Y hf
    isplitl [H11]; · iexact H11
    have e : gateOut (qOut (iblk0 V c 0 t) (iblk0 V c 1 t) (iblk0 V c 4 t) (iblk0 V c 7 t) (iblk0 V c 8 t))
        (kPut (grid0.coords t) (kPiece (iblk0 V c 0 t) (iblk0 V c 2 t) (iblk0 V c 5 t) (iblk0 V c 7 t) (iblk0 V c 8 t)) Y) = gAt V c t := by
      unfold gAt qAt; rw [← hk]; rfl
    rw [← e]
    iexact H12
  · have hi : cfg0.idle 12 (cfg0.grid.coords t) = true := by
      show (!(k0_cond1 (grid0.coords t) == 1#1)) = true
      rw [show (k0_cond1 (grid0.coords t) == 1#1) = false from beq_eq_false_iff_ne.mpr hc]; rfl
    have hfl : (cfg0.win 12).flush t = false := by
      rw [← Bool.not_eq_true, flush0_12]; exact fun h => hc ((hcond0_0 t).mpr h)
    rw [(dat0 V c).leaves_idle 12 t hi hfl]
    iapply (sound_kernel0A c Set.univ (grid0.coords t) _ _ _ _ _ _ _ _ _ _ _ _ _ _ _ _ _ _ _ _ _ _ _ _ _ _ hc (iblk0 V c 0 t) (iblk0 V c 1 t) (iblk0 V c 2 t) (iblk0 V c 3 t) (iblk0 V c 4 t) (iblk0 V c 5 t) (iblk0 V c 6 t) (iblk0 V c 7 t) (iblk0 V c 8 t) Y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap; · iexact H10
      ipureintro; exact kPut_step V c t Y hf
    isplitl [H11]; · iexact H11
    iexists d12; iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point, the key window held to `Rl0`. -/
theorem body_obligation0 (c : Dev nD) :
    Pipeline.BodyObligationRel (dat0 (F := F) V c) (defs₀ (F := F)) Variants.none () Set.univ fgt0 (Rl0 V c) := fun t => by
  rw [bigSep_W0, bigSep_W0, defs₀_row0]
  exact triple_restated (sound_body0 V c t) rfl .rfl fun _ => .rfl

/-- The key window after the last point is the whole keys. -/
theorem Rl0_last (c : Dev nD) (t : Fin cfg0.N) (h3 : t.val % 4 = 3) (X : (cfg0.win 10).block.Idx → Elt F (cfg0.win 10).elt) (h : Rl0 V c 10 t X) :
    X = kFull V c := funext fun y => by
  have h' : ∀ y : S2048x512.Idx, (y 0).val < 512 * (t.val + 1) → (X : Vec F S2048x512 .f32) y = kFull V c y := h
  exact h' y (by have := row_lt y; omega)

end Regions

end Cert.Proof.KI

end
-- ==== Proof.KI.R1.lean ====
/-
The attention call: what its body leaves in the output window, and its body obligation, at any contents `V` the call is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x2048 := Rect.unit (s := S1x1x2048) ![0, 0, 0] S1x1x2048.size inb_S1x1x2048_S1x1x2048_0_0_0
abbrev r1_1 : Rect S2048x128 := Rect.unit (s := S2048x128) ![0, 0] S128x128.size inb_S2048x128_S128x128_0_0
abbrev r1_2 : Rect S2048x512 := Rect.unit (s := S2048x512) ![0, 0] S128x128.size inb_S2048x512_S128x128_0_0
abbrev r1_3 : Rect S2048x512 := Rect.unit (s := S2048x512) ![0, 128] S128x128.size inb_S2048x512_S128x128_0_128
abbrev r1_4 : Rect S2048x512 := Rect.unit (s := S2048x512) ![0, 256] S128x128.size inb_S2048x512_S128x128_0_256
abbrev r1_5 : Rect S2048x512 := Rect.unit (s := S2048x512) ![0, 384] S128x128.size inb_S2048x512_S128x128_0_384
abbrev r1_6 : Rect S2048x128 := Rect.unit (s := S2048x128) ![0, 0] S256x128.size inb_S2048x128_S256x128_0_0
abbrev r1_7 : Rect S2048x512 := Rect.unit (s := S2048x512) ![128, 0] S128x128.size inb_S2048x512_S128x128_128_0
abbrev r1_8 : Rect S2048x512 := Rect.unit (s := S2048x512) ![128, 128] S128x128.size inb_S2048x512_S128x128_128_128
abbrev r1_9 : Rect S2048x512 := Rect.unit (s := S2048x512) ![128, 256] S128x128.size inb_S2048x512_S128x128_128_256
abbrev r1_10 : Rect S2048x512 := Rect.unit (s := S2048x512) ![128, 384] S128x128.size inb_S2048x512_S128x128_128_384
abbrev r1_11 : Rect S2048x128 := Rect.unit (s := S2048x128) ![0, 0] S384x128.size inb_S2048x128_S384x128_0_0
abbrev r1_12 : Rect S2048x512 := Rect.unit (s := S2048x512) ![256, 0] S128x128.size inb_S2048x512_S128x128_256_0
abbrev r1_13 : Rect S2048x512 := Rect.unit (s := S2048x512) ![256, 128] S128x128.size inb_S2048x512_S128x128_256_128
abbrev r1_14 : Rect S2048x512 := Rect.unit (s := S2048x512) ![256, 256] S128x128.size inb_S2048x512_S128x128_256_256
abbrev r1_15 : Rect S2048x512 := Rect.unit (s := S2048x512) ![256, 384] S128x128.size inb_S2048x512_S128x128_256_384
abbrev r1_16 : Rect S2048x128 := Rect.unit (s := S2048x128) ![0, 0] S512x128.size inb_S2048x128_S512x128_0_0
abbrev r1_17 : Rect S2048x512 := Rect.unit (s := S2048x512) ![384, 0] S128x128.size inb_S2048x512_S128x128_384_0
abbrev r1_18 : Rect S2048x512 := Rect.unit (s := S2048x512) ![384, 128] S128x128.size inb_S2048x512_S128x128_384_128
abbrev r1_19 : Rect S2048x512 := Rect.unit (s := S2048x512) ![384, 256] S128x128.size inb_S2048x512_S128x128_384_256
abbrev r1_20 : Rect S2048x512 := Rect.unit (s := S2048x512) ![384, 384] S128x128.size inb_S2048x512_S128x128_384_384
abbrev r1_21 : Rect S2048x128 := Rect.unit (s := S2048x128) ![0, 0] S640x128.size inb_S2048x128_S640x128_0_0
abbrev r1_22 : Rect S2048x512 := Rect.unit (s := S2048x512) ![512, 0] S128x128.size inb_S2048x512_S128x128_512_0
abbrev r1_23 : Rect S2048x512 := Rect.unit (s := S2048x512) ![512, 128] S128x128.size inb_S2048x512_S128x128_512_128
abbrev r1_24 : Rect S2048x512 := Rect.unit (s := S2048x512) ![512, 256] S128x128.size inb_S2048x512_S128x128_512_256
abbrev r1_25 : Rect S2048x512 := Rect.unit (s := S2048x512) ![512, 384] S128x128.size inb_S2048x512_S128x128_512_384
abbrev r1_26 : Rect S2048x128 := Rect.unit (s := S2048x128) ![0, 0] S768x128.size inb_S2048x128_S768x128_0_0
abbrev r1_27 : Rect S2048x512 := Rect.unit (s := S2048x512) ![640, 0] S128x128.size inb_S2048x512_S128x128_640_0
abbrev r1_28 : Rect S2048x512 := Rect.unit (s := S2048x512) ![640, 128] S128x128.size inb_S2048x512_S128x128_640_128
abbrev r1_29 : Rect S2048x512 := Rect.unit (s := S2048x512) ![640, 256] S128x128.size inb_S2048x512_S128x128_640_256
abbrev r1_30 : Rect S2048x512 := Rect.unit (s := S2048x512) ![640, 384] S128x128.size inb_S2048x512_S128x128_640_384
abbrev r1_31 : Rect S2048x128 := Rect.unit (s := S2048x128) ![0, 0] S896x128.size inb_S2048x128_S896x128_0_0
abbrev r1_32 : Rect S2048x512 := Rect.unit (s := S2048x512) ![768, 0] S128x128.size inb_S2048x512_S128x128_768_0
abbrev r1_33 : Rect S2048x512 := Rect.unit (s := S2048x512) ![768, 128] S128x128.size inb_S2048x512_S128x128_768_128
abbrev r1_34 : Rect S2048x512 := Rect.unit (s := S2048x512) ![768, 256] S128x128.size inb_S2048x512_S128x128_768_256
abbrev r1_35 : Rect S2048x512 := Rect.unit (s := S2048x512) ![768, 384] S128x128.size inb_S2048x512_S128x128_768_384
abbrev r1_36 : Rect S2048x128 := Rect.unit (s := S2048x128) ![0, 0] S1024x128.size inb_S2048x128_S1024x128_0_0
abbrev r1_37 : Rect S2048x512 := Rect.unit (s := S2048x512) ![896, 0] S128x128.size inb_S2048x512_S128x128_896_0
abbrev r1_38 : Rect S2048x512 := Rect.unit (s := S2048x512) ![896, 128] S128x128.size inb_S2048x512_S128x128_896_128
abbrev r1_39 : Rect S2048x512 := Rect.unit (s := S2048x512) ![896, 256] S128x128.size inb_S2048x512_S128x128_896_256
abbrev r1_40 : Rect S2048x512 := Rect.unit (s := S2048x512) ![896, 384] S128x128.size inb_S2048x512_S128x128_896_384
abbrev r1_41 : Rect S2048x128 := Rect.unit (s := S2048x128) ![0, 0] S1152x128.size inb_S2048x128_S1152x128_0_0
abbrev r1_42 : Rect S2048x512 := Rect.unit (s := S2048x512) ![1024, 0] S128x128.size inb_S2048x512_S128x128_1024_0
abbrev r1_43 : Rect S2048x512 := Rect.unit (s := S2048x512) ![1024, 128] S128x128.size inb_S2048x512_S128x128_1024_128
abbrev r1_44 : Rect S2048x512 := Rect.unit (s := S2048x512) ![1024, 256] S128x128.size inb_S2048x512_S128x128_1024_256
abbrev r1_45 : Rect S2048x512 := Rect.unit (s := S2048x512) ![1024, 384] S128x128.size inb_S2048x512_S128x128_1024_384
abbrev r1_46 : Rect S2048x128 := Rect.unit (s := S2048x128) ![0, 0] S1280x128.size inb_S2048x128_S1280x128_0_0
abbrev r1_47 : Rect S2048x512 := Rect.unit (s := S2048x512) ![1152, 0] S128x128.size inb_S2048x512_S128x128_1152_0
abbrev r1_48 : Rect S2048x512 := Rect.unit (s := S2048x512) ![1152, 128] S128x128.size inb_S2048x512_S128x128_1152_128
abbrev r1_49 : Rect S2048x512 := Rect.unit (s := S2048x512) ![1152, 256] S128x128.size inb_S2048x512_S128x128_1152_256
abbrev r1_50 : Rect S2048x512 := Rect.unit (s := S2048x512) ![1152, 384] S128x128.size inb_S2048x512_S128x128_1152_384
abbrev r1_51 : Rect S2048x128 := Rect.unit (s := S2048x128) ![0, 0] S1408x128.size inb_S2048x128_S1408x128_0_0
abbrev r1_52 : Rect S2048x512 := Rect.unit (s := S2048x512) ![1280, 0] S128x128.size inb_S2048x512_S128x128_1280_0
abbrev r1_53 : Rect S2048x512 := Rect.unit (s := S2048x512) ![1280, 128] S128x128.size inb_S2048x512_S128x128_1280_128
abbrev r1_54 : Rect S2048x512 := Rect.unit (s := S2048x512) ![1280, 256] S128x128.size inb_S2048x512_S128x128_1280_256
abbrev r1_55 : Rect S2048x512 := Rect.unit (s := S2048x512) ![1280, 384] S128x128.size inb_S2048x512_S128x128_1280_384
abbrev r1_56 : Rect S2048x128 := Rect.unit (s := S2048x128) ![0, 0] S1536x128.size inb_S2048x128_S1536x128_0_0
abbrev r1_57 : Rect S2048x512 := Rect.unit (s := S2048x512) ![1408, 0] S128x128.size inb_S2048x512_S128x128_1408_0
abbrev r1_58 : Rect S2048x512 := Rect.unit (s := S2048x512) ![1408, 128] S128x128.size inb_S2048x512_S128x128_1408_128
abbrev r1_59 : Rect S2048x512 := Rect.unit (s := S2048x512) ![1408, 256] S128x128.size inb_S2048x512_S128x128_1408_256
abbrev r1_60 : Rect S2048x512 := Rect.unit (s := S2048x512) ![1408, 384] S128x128.size inb_S2048x512_S128x128_1408_384
abbrev r1_61 : Rect S2048x128 := Rect.unit (s := S2048x128) ![0, 0] S1664x128.size inb_S2048x128_S1664x128_0_0
abbrev r1_62 : Rect S2048x512 := Rect.unit (s := S2048x512) ![1536, 0] S128x128.size inb_S2048x512_S128x128_1536_0
abbrev r1_63 : Rect S2048x512 := Rect.unit (s := S2048x512) ![1536, 128] S128x128.size inb_S2048x512_S128x128_1536_128
abbrev r1_64 : Rect S2048x512 := Rect.unit (s := S2048x512) ![1536, 256] S128x128.size inb_S2048x512_S128x128_1536_256
abbrev r1_65 : Rect S2048x512 := Rect.unit (s := S2048x512) ![1536, 384] S128x128.size inb_S2048x512_S128x128_1536_384
abbrev r1_66 : Rect S2048x128 := Rect.unit (s := S2048x128) ![0, 0] S1792x128.size inb_S2048x128_S1792x128_0_0
abbrev r1_67 : Rect S2048x512 := Rect.unit (s := S2048x512) ![1664, 0] S128x128.size inb_S2048x512_S128x128_1664_0
abbrev r1_68 : Rect S2048x512 := Rect.unit (s := S2048x512) ![1664, 128] S128x128.size inb_S2048x512_S128x128_1664_128
abbrev r1_69 : Rect S2048x512 := Rect.unit (s := S2048x512) ![1664, 256] S128x128.size inb_S2048x512_S128x128_1664_256
abbrev r1_70 : Rect S2048x512 := Rect.unit (s := S2048x512) ![1664, 384] S128x128.size inb_S2048x512_S128x128_1664_384
abbrev r1_71 : Rect S2048x128 := Rect.unit (s := S2048x128) ![0, 0] S1920x128.size inb_S2048x128_S1920x128_0_0
abbrev r1_72 : Rect S2048x512 := Rect.unit (s := S2048x512) ![1792, 0] S128x128.size inb_S2048x512_S128x128_1792_0
abbrev r1_73 : Rect S2048x512 := Rect.unit (s := S2048x512) ![1792, 128] S128x128.size inb_S2048x512_S128x128_1792_128
abbrev r1_74 : Rect S2048x512 := Rect.unit (s := S2048x512) ![1792, 256] S128x128.size inb_S2048x512_S128x128_1792_256
abbrev r1_75 : Rect S2048x512 := Rect.unit (s := S2048x512) ![1792, 384] S128x128.size inb_S2048x512_S128x128_1792_384
abbrev r1_76 : Rect S2048x128 := Rect.unit (s := S2048x128) ![0, 0] S2048x128.size inb_S2048x128_S2048x128_0_0
abbrev r1_77 : Rect S2048x512 := Rect.unit (s := S2048x512) ![1920, 0] S128x128.size inb_S2048x512_S128x128_1920_0
abbrev r1_78 : Rect S2048x512 := Rect.unit (s := S2048x512) ![1920, 128] S128x128.size inb_S2048x512_S128x128_1920_128
abbrev r1_79 : Rect S2048x512 := Rect.unit (s := S2048x512) ![1920, 256] S128x128.size inb_S2048x512_S128x128_1920_256
abbrev r1_80 : Rect S2048x512 := Rect.unit (s := S2048x512) ![1920, 384] S128x128.size inb_S2048x512_S128x128_1920_384

/-! ## What the body leaves in each output window's buffer -/

/-! ### Values of the body that the stores' payloads, spelt out, would write more than once

    Each is a vector the body binds (often a part call's result), stated over the input windows' blocks and
    numbered on from the skeleton's payload functions (`k1_pay180` …, after `k1_pay179`), so that
    `out1_W` and the values after it name it instead of spelling it out; the comment after each is the printed function's
    name for the value (a count appended where that name is bound again). -/

def k1_pay180 (x0 : Vec F S1x1x2048 .f32) (x1 : Vec F S2048x512 .f32) (x2 : Vec F S2048x128 .f32) (x3 : Vec F S2048x128 .f32) : FVec F S1x2048 .f32 :=
  k1_pay1 (View.ld x0 r1_0) -- `v2`
def k1_pay181 (x0 : Vec F S1x1x2048 .f32) (x1 : Vec F S2048x512 .f32) (x2 : Vec F S2048x128 .f32) (x3 : Vec F S2048x128 .f32) : FVec F S128x128 .f32 :=
  k1_pay3 (F := F) -- `v10`
def k1_pay182 (x0 : Vec F S1x1x2048 .f32) (x1 : Vec F S2048x512 .f32) (x2 : Vec F S2048x128 .f32) (x3 : Vec F S2048x128 .f32) : IVec S128x128 1 :=
  k1_pay4 -- `v12`
def k1_pay183 (x0 : Vec F S1x1x2048 .f32) (x1 : Vec F S2048x512 .f32) (x2 : Vec F S2048x128 .f32) (x3 : Vec F S2048x128 .f32) : IVec S128x128 1 :=
  k1_pay5 -- `v15`
def k1_pay184 (x0 : Vec F S1x1x2048 .f32) (x1 : Vec F S2048x512 .f32) (x2 : Vec F S2048x128 .f32) (x3 : Vec F S2048x128 .f32) : FVec F S128x128 .f32 :=
  k1_pay6 (View.ld x0 r1_0) -- `v24`
def k1_pay185 (x0 : Vec F S1x1x2048 .f32) (x1 : Vec F S2048x512 .f32) (x2 : Vec F S2048x128 .f32) (x3 : Vec F S2048x128 .f32) : FVec F S128x128 .f32 :=
  k1_pay7 (View.ld x2 r1_1) -- `v26`
def k1_pay186 (x0 : Vec F S1x1x2048 .f32) (x1 : Vec F S2048x512 .f32) (x2 : Vec F S2048x128 .f32) (x3 : Vec F S2048x128 .f32) : FVec F S128x128 .f32 :=
  k1_pay8 (View.ld x3 r1_1) -- `v28`
def k1_pay187 (x0 : Vec F S1x1x2048 .f32) (x1 : Vec F S2048x512 .f32) (x2 : Vec F S2048x128 .f32) (x3 : Vec F S2048x128 .f32) : FVec F S128x128 .f32 :=
  k1_pay14 (k1_pay180 x0 x1 x2 x3) (k1_pay181 x0 x1 x2 x3) -- `v83`
def k1_pay188 (x0 : Vec F S1x1x2048 .f32) (x1 : Vec F S2048x512 .f32) (x2 : Vec F S2048x128 .f32) (x3 : Vec F S2048x128 .f32) : FVec F S128x128 .f32 :=
  k1_pay15 (k1_pay180 x0 x1 x2 x3) (k1_pay182 x0 x1 x2 x3) (k1_pay183 x0 x1 x2 x3) -- `v92`
def k1_pay189 (x0 : Vec F S1x1x2048 .f32) (x1 : Vec F S2048x512 .f32) (x2 : Vec F S2048x128 .f32) (x3 : Vec F S2048x128 .f32) : FVec F S256x128 .f32 :=
  k1_pay16 (View.ld x2 r1_6) -- `v94`
def k1_pay190 (x0 : Vec F S1x1x2048 .f32) (x1 : Vec F S2048x512 .f32) (x2 : Vec F S2048x128 .f32) (x3 : Vec F S2048x128 .f32) : FVec F S256x128 .f32 :=
  k1_pay17 (View.ld x3 r1_6) -- `v96`
def k1_pay191 (x0 : Vec F S1x1x2048 .f32) (x1 : Vec F S2048x512 .f32) (x2 : Vec F S2048x128 .f32) (x3 : Vec F S2048x128 .f32) : FVec F S128x128 .f32 :=
  k1_pay23 (k1_pay180 x0 x1 x2 x3) (k1_pay181 x0 x1 x2 x3) -- `v167`
def k1_pay192 (x0 : Vec F S1x1x2048 .f32) (x1 : Vec F S2048x512 .f32) (x2 : Vec F S2048x128 .f32) (x3 : Vec F S2048x128 .f32) : FVec F S128x128 .f32 :=
  k1_pay24 (k1_pay180 x0 x1 x2 x3) (k1_pay182 x0 x1 x2 x3) (k1_pay183 x0 x1 x2 x3) -- `v176`
def k1_pay193 (x0 : Vec F S1x1x2048 .f32) (x1 : Vec F S2048x512 .f32) (x2 : Vec F S2048x128 .f32) (x3 : Vec F S2048x128 .f32) : FVec F S384x128 .f32 :=
  k1_pay25 (View.ld x2 r1_11) -- `v178`
def k1_pay194 (x0 : Vec F S1x1x2048 .f32) (x1 : Vec F S2048x512 .f32) (x2 : Vec F S2048x128 .f32) (x3 : Vec F S2048x128 .f32) : FVec F S384x128 .f32 :=
  k1_pay26 (View.ld x3 r1_11) -- `v180`
def k1_pay195 (x0 : Vec F S1x1x2048 .f32) (x1 : Vec F S2048x512 .f32) (x2 : Vec F S2048x128 .f32) (x3 : Vec F S2048x128 .f32) : FVec F S128x128 .f32 :=
  k1_pay35 (k1_pay180 x0 x1 x2 x3) (k1_pay181 x0 x1 x2 x3) -- `v267`
def k1_pay196 (x0 : Vec F S1x1x2048 .f32) (x1 : Vec F S2048x512 .f32) (x2 : Vec F S2048x128 .f32) (x3 : Vec F S2048x128 .f32) : FVec F S128x128 .f32 :=
  k1_pay36 (k1_pay180 x0 x1 x2 x3) (k1_pay182 x0 x1 x2 x3) (k1_pay183 x0 x1 x2 x3) -- `v276`
def k1_pay197 (x0 : Vec F S1x1x2048 .f32) (x1 : Vec F S2048x512 .f32) (x2 : Vec F S2048x128 .f32) (x3 : Vec F S2048x128 .f32) : FVec F S512x128 .f32 :=
  k1_pay37 (View.ld x2 r1_16) -- `v278`
def k1_pay198 (x0 : Vec F S1x1x2048 .f32) (x1 : Vec F S2048x512 .f32) (x2 : Vec F S2048x128 .f32) (x3 : Vec F S2048x128 .f32) : FVec F S512x128 .f32 :=
  k1_pay38 (View.ld x3 r1_16) -- `v280`
def k1_pay199 (x0 : Vec F S1x1x2048 .f32) (x1 : Vec F S2048x512 .f32) (x2 : Vec F S2048x128 .f32) (x3 : Vec F S2048x128 .f32) : FVec F S128x128 .f32 :=
  k1_pay43 (k1_pay180 x0 x1 x2 x3) (k1_pay181 x0 x1 x2 x3) -- `v367`
def k1_pay200 (x0 : Vec F S1x1x2048 .f32) (x1 : Vec F S2048x512 .f32) (x2 : Vec F S2048x128 .f32) (x3 : Vec F S2048x128 .f32) : FVec F S128x128 .f32 :=
  k1_pay44 (k1_pay180 x0 x1 x2 x3) (k1_pay182 x0 x1 x2 x3) (k1_pay183 x0 x1 x2 x3) -- `v376`
def k1_pay201 (x0 : Vec F S1x1x2048 .f32) (x1 : Vec F S2048x512 .f32) (x2 : Vec F S2048x128 .f32) (x3 : Vec F S2048x128 .f32) : FVec F S640x128 .f32 :=
  k1_pay45 (View.ld x2 r1_21) -- `v378`
def k1_pay202 (x0 : Vec F S1x1x2048 .f32) (x1 : Vec F S2048x512 .f32) (x2 : Vec F S2048x128 .f32) (x3 : Vec F S2048x128 .f32) : FVec F S640x128 .f32 :=
  k1_pay46 (View.ld x3 r1_21) -- `v380`
def k1_pay203 (x0 : Vec F S1x1x2048 .f32) (x1 : Vec F S2048x512 .f32) (x2 : Vec F S2048x128 .f32) (x3 : Vec F S2048x128 .f32) : FVec F S128x128 .f32 :=
  k1_pay53 (k1_pay180 x0 x1 x2 x3) (k1_pay181 x0 x1 x2 x3) -- `v467`
def k1_pay204 (x0 : Vec F S1x1x2048 .f32) (x1 : Vec F S2048x512 .f32) (x2 : Vec F S2048x128 .f32) (x3 : Vec F S2048x128 .f32) : FVec F S128x128 .f32 :=
  k1_pay54 (k1_pay180 x0 x1 x2 x3) (k1_pay182 x0 x1 x2 x3) (k1_pay183 x0 x1 x2 x3) -- `v476`
def k1_pay205 (x0 : Vec F S1x1x2048 .f32) (x1 : Vec F S2048x512 .f32) (x2 : Vec F S2048x128 .f32) (x3 : Vec F S2048x128 .f32) : FVec F S768x128 .f32 :=
  k1_pay55 (View.ld x2 r1_26) -- `v478`
def k1_pay206 (x0 : Vec F S1x1x2048 .f32) (x1 : Vec F S2048x512 .f32) (x2 : Vec F S2048x128 .f32) (x3 : Vec F S2048x128 .f32) : FVec F S768x128 .f32 :=
  k1_pay56 (View.ld x3 r1_26) -- `v480`
def k1_pay207 (x0 : Vec F S1x1x2048 .f32) (x1 : Vec F S2048x512 .f32) (x2 : Vec F S2048x128 .f32) (x3 : Vec F S2048x128 .f32) : FVec F S128x128 .f32 :=
  k1_pay67 (k1_pay180 x0 x1 x2 x3) (k1_pay181 x0 x1 x2 x3) -- `v567`
def k1_pay208 (x0 : Vec F S1x1x2048 .f32) (x1 : Vec F S2048x512 .f32) (x2 : Vec F S2048x128 .f32) (x3 : Vec F S2048x128 .f32) : FVec F S128x128 .f32 :=
  k1_pay68 (k1_pay180 x0 x1 x2 x3) (k1_pay182 x0 x1 x2 x3) (k1_pay183 x0 x1 x2 x3) -- `v576`
def k1_pay209 (x0 : Vec F S1x1x2048 .f32) (x1 : Vec F S2048x512 .f32) (x2 : Vec F S2048x128 .f32) (x3 : Vec F S2048x128 .f32) : FVec F S896x128 .f32 :=
  k1_pay69 (View.ld x2 r1_31) -- `v578`
def k1_pay210 (x0 : Vec F S1x1x2048 .f32) (x1 : Vec F S2048x512 .f32) (x2 : Vec F S2048x128 .f32) (x3 : Vec F S2048x128 .f32) : FVec F S896x128 .f32 :=
  k1_pay70 (View.ld x3 r1_31) -- `v580`
def k1_pay211 (x0 : Vec F S1x1x2048 .f32) (x1 : Vec F S2048x512 .f32) (x2 : Vec F S2048x128 .f32) (x3 : Vec F S2048x128 .f32) : FVec F S128x128 .f32 :=
  k1_pay81 (k1_pay180 x0 x1 x2 x3) (k1_pay181 x0 x1 x2 x3) -- `v667`
def k1_pay212 (x0 : Vec F S1x1x2048 .f32) (x1 : Vec F S2048x512 .f32) (x2 : Vec F S2048x128 .f32) (x3 : Vec F S2048x128 .f32) : FVec F S128x128 .f32 :=
  k1_pay82 (k1_pay180 x0 x1 x2 x3) (k1_pay182 x0 x1 x2 x3) (k1_pay183 x0 x1 x2 x3) -- `v676`
def k1_pay213 (x0 : Vec F S1x1x2048 .f32) (x1 : Vec F S2048x512 .f32) (x2 : Vec F S2048x128 .f32) (x3 : Vec F S2048x128 .f32) : FVec F S1024x128 .f32 :=
  k1_pay83 (View.ld x2 r1_36) -- `v678`
def k1_pay214 (x0 : Vec F S1x1x2048 .f32) (x1 : Vec F S2048x512 .f32) (x2 : Vec F S2048x128 .f32) (x3 : Vec F S2048x128 .f32) : FVec F S1024x128 .f32 :=
  k1_pay84 (View.ld x3 r1_36) -- `v680`
def k1_pay215 (x0 : Vec F S1x1x2048 .f32) (x1 : Vec F S2048x512 .f32) (x2 : Vec F S2048x128 .f32) (x3 : Vec F S2048x128 .f32) : FVec F S128x128 .f32 :=
  k1_pay89 (k1_pay180 x0 x1 x2 x3) (k1_pay181 x0 x1 x2 x3) -- `v767`
def k1_pay216 (x0 : Vec F S1x1x2048 .f32) (x1 : Vec F S2048x512 .f32) (x2 : Vec F S2048x128 .f32) (x3 : Vec F S2048x128 .f32) : FVec F S128x128 .f32 :=
  k1_pay90 (k1_pay180 x0 x1 x2 x3) (k1_pay182 x0 x1 x2 x3) (k1_pay183 x0 x1 x2 x3) -- `v776`
def k1_pay217 (x0 : Vec F S1x1x2048 .f32) (x1 : Vec F S2048x512 .f32) (x2 : Vec F S2048x128 .f32) (x3 : Vec F S2048x128 .f32) : FVec F S1152x128 .f32 :=
  k1_pay91 (View.ld x2 r1_41) -- `v778`
def k1_pay218 (x0 : Vec F S1x1x2048 .f32) (x1 : Vec F S2048x512 .f32) (x2 : Vec F S2048x128 .f32) (x3 : Vec F S2048x128 .f32) : FVec F S1152x128 .f32 :=
  k1_pay92 (View.ld x3 r1_41) -- `v780`
def k1_pay219 (x0 : Vec F S1x1x2048 .f32) (x1 : Vec F S2048x512 .f32) (x2 : Vec F S2048x128 .f32) (x3 : Vec F S2048x128 .f32) : FVec F S128x128 .f32 :=
  k1_pay99 (k1_pay180 x0 x1 x2 x3) (k1_pay181 x0 x1 x2 x3) -- `v867`
def k1_pay220 (x0 : Vec F S1x1x2048 .f32) (x1 : Vec F S2048x512 .f32) (x2 : Vec F S2048x128 .f32) (x3 : Vec F S2048x128 .f32) : IVec S128x128 1 :=
  k1_pay100 (k1_pay180 x0 x1 x2 x3) (k1_pay182 x0 x1 x2 x3) -- `v872`
def k1_pay221 (x0 : Vec F S1x1x2048 .f32) (x1 : Vec F S2048x512 .f32) (x2 : Vec F S2048x128 .f32) (x3 : Vec F S2048x128 .f32) : IVec S128x128 32 :=
  k1_pay101 (k1_pay183 x0 x1 x2 x3) -- `v873`
def k1_pay222 (x0 : Vec F S1x1x2048 .f32) (x1 : Vec F S2048x512 .f32) (x2 : Vec F S2048x128 .f32) (x3 : Vec F S2048x128 .f32) : FVec F S128x128 .f32 :=
  k1_pay102 (F := F) (k1_pay220 x0 x1 x2 x3) (k1_pay221 x0 x1 x2 x3) -- `v876`
def k1_pay223 (x0 : Vec F S1x1x2048 .f32) (x1 : Vec F S2048x512 .f32) (x2 : Vec F S2048x128 .f32) (x3 : Vec F S2048x128 .f32) : FVec F S1280x128 .f32 :=
  k1_pay103 (View.ld x2 r1_46) -- `v878`
def k1_pay224 (x0 : Vec F S1x1x2048 .f32) (x1 : Vec F S2048x512 .f32) (x2 : Vec F S2048x128 .f32) (x3 : Vec F S2048x128 .f32) : FVec F S1280x128 .f32 :=
  k1_pay104 (View.ld x3 r1_46) -- `v880`
def k1_pay225 (x0 : Vec F S1x1x2048 .f32) (x1 : Vec F S2048x512 .f32) (x2 : Vec F S2048x128 .f32) (x3 : Vec F S2048x128 .f32) : FVec F S128x128 .f32 :=
  k1_pay117 (k1_pay180 x0 x1 x2 x3) (k1_pay181 x0 x1 x2 x3) -- `v967`
def k1_pay226 (x0 : Vec F S1x1x2048 .f32) (x1 : Vec F S2048x512 .f32) (x2 : Vec F S2048x128 .f32) (x3 : Vec F S2048x128 .f32) : FVec F S128x128 .f32 :=
  k1_pay118 (k1_pay180 x0 x1 x2 x3) (k1_pay182 x0 x1 x2 x3) (k1_pay183 x0 x1 x2 x3) -- `v976`
def k1_pay227 (x0 : Vec F S1x1x2048 .f32) (x1 : Vec F S2048x512 .f32) (x2 : Vec F S2048x128 .f32) (x3 : Vec F S2048x128 .f32) : FVec F S1408x128 .f32 :=
  k1_pay119 (View.ld x2 r1_51) -- `v978`
def k1_pay228 (x0 : Vec F S1x1x2048 .f32) (x1 : Vec F S2048x512 .f32) (x2 : Vec F S2048x128 .f32) (x3 : Vec F S2048x128 .f32) : FVec F S1408x128 .f32 :=
  k1_pay120 (View.ld x3 r1_51) -- `v980`
def k1_pay229 (x0 : Vec F S1x1x2048 .f32) (x1 : Vec F S2048x512 .f32) (x2 : Vec F S2048x128 .f32) (x3 : Vec F S2048x128 .f32) : FVec F S128x128 .f32 :=
  k1_pay125 (k1_pay180 x0 x1 x2 x3) (k1_pay181 x0 x1 x2 x3) -- `v1067`
def k1_pay230 (x0 : Vec F S1x1x2048 .f32) (x1 : Vec F S2048x512 .f32) (x2 : Vec F S2048x128 .f32) (x3 : Vec F S2048x128 .f32) : FVec F S128x128 .f32 :=
  k1_pay126 (k1_pay180 x0 x1 x2 x3) (k1_pay182 x0 x1 x2 x3) (k1_pay183 x0 x1 x2 x3) -- `v1076`
def k1_pay231 (x0 : Vec F S1x1x2048 .f32) (x1 : Vec F S2048x512 .f32) (x2 : Vec F S2048x128 .f32) (x3 : Vec F S2048x128 .f32) : FVec F S1536x128 .f32 :=
  k1_pay127 (View.ld x2 r1_56) -- `v1078`
def k1_pay232 (x0 : Vec F S1x1x2048 .f32) (x1 : Vec F S2048x512 .f32) (x2 : Vec F S2048x128 .f32) (x3 : Vec F S2048x128 .f32) : FVec F S1536x128 .f32 :=
  k1_pay128 (View.ld x3 r1_56) -- `v1080`
def k1_pay233 (x0 : Vec F S1x1x2048 .f32) (x1 : Vec F S2048x512 .f32) (x2 : Vec F S2048x128 .f32) (x3 : Vec F S2048x128 .f32) : FVec F S128x128 .f32 :=
  k1_pay135 (k1_pay180 x0 x1 x2 x3) (k1_pay181 x0 x1 x2 x3) -- `v1167`
def k1_pay234 (x0 : Vec F S1x1x2048 .f32) (x1 : Vec F S2048x512 .f32) (x2 : Vec F S2048x128 .f32) (x3 : Vec F S2048x128 .f32) : FVec F S1x128 .f32 :=
  k1_pay136 (k1_pay180 x0 x1 x2 x3) -- `v1168`
def k1_pay235 (x0 : Vec F S1x1x2048 .f32) (x1 : Vec F S2048x512 .f32) (x2 : Vec F S2048x128 .f32) (x3 : Vec F S2048x128 .f32) : FVec F S128x128 .f32 :=
  k1_pay137 (k1_pay182 x0 x1 x2 x3) (k1_pay183 x0 x1 x2 x3) (k1_pay234 x0 x1 x2 x3) -- `v1176`
def k1_pay236 (x0 : Vec F S1x1x2048 .f32) (x1 : Vec F S2048x512 .f32) (x2 : Vec F S2048x128 .f32) (x3 : Vec F S2048x128 .f32) : FVec F S1664x128 .f32 :=
  k1_pay138 (View.ld x2 r1_61) -- `v1178`
def k1_pay237 (x0 : Vec F S1x1x2048 .f32) (x1 : Vec F S2048x512 .f32) (x2 : Vec F S2048x128 .f32) (x3 : Vec F S2048x128 .f32) : FVec F S1664x128 .f32 :=
  k1_pay139 (View.ld x3 r1_61) -- `v1180`
def k1_pay238 (x0 : Vec F S1x1x2048 .f32) (x1 : Vec F S2048x512 .f32) (x2 : Vec F S2048x128 .f32) (x3 : Vec F S2048x128 .f32) : FVec F S128x128 .f32 :=
  k1_pay150 (k1_pay180 x0 x1 x2 x3) (k1_pay181 x0 x1 x2 x3) -- `v1267`
def k1_pay239 (x0 : Vec F S1x1x2048 .f32) (x1 : Vec F S2048x512 .f32) (x2 : Vec F S2048x128 .f32) (x3 : Vec F S2048x128 .f32) : FVec F S128x128 .f32 :=
  k1_pay151 (k1_pay180 x0 x1 x2 x3) (k1_pay182 x0 x1 x2 x3) (k1_pay183 x0 x1 x2 x3) -- `v1276`
def k1_pay240 (x0 : Vec F S1x1x2048 .f32) (x1 : Vec F S2048x512 .f32) (x2 : Vec F S2048x128 .f32) (x3 : Vec F S2048x128 .f32) : FVec F S1792x128 .f32 :=
  k1_pay152 (View.ld x2 r1_66) -- `v1278`
def k1_pay241 (x0 : Vec F S1x1x2048 .f32) (x1 : Vec F S2048x512 .f32) (x2 : Vec F S2048x128 .f32) (x3 : Vec F S2048x128 .f32) : FVec F S1792x128 .f32 :=
  k1_pay153 (View.ld x3 r1_66) -- `v1280`
def k1_pay242 (x0 : Vec F S1x1x2048 .f32) (x1 : Vec F S2048x512 .f32) (x2 : Vec F S2048x128 .f32) (x3 : Vec F S2048x128 .f32) : FVec F S128x128 .f32 :=
  k1_pay160 (k1_pay180 x0 x1 x2 x3) (k1_pay181 x0 x1 x2 x3) -- `v1367`
def k1_pay243 (x0 : Vec F S1x1x2048 .f32) (x1 : Vec F S2048x512 .f32) (x2 : Vec F S2048x128 .f32) (x3 : Vec F S2048x128 .f32) : FVec F S128x128 .f32 :=
  k1_pay161 (k1_pay180 x0 x1 x2 x3) (k1_pay182 x0 x1 x2 x3) (k1_pay183 x0 x1 x2 x3) -- `v1376`
def k1_pay244 (x0 : Vec F S1x1x2048 .f32) (x1 : Vec F S2048x512 .f32) (x2 : Vec F S2048x128 .f32) (x3 : Vec F S2048x128 .f32) : FVec F S1920x128 .f32 :=
  k1_pay162 (View.ld x2 r1_71) -- `v1378`
def k1_pay245 (x0 : Vec F S1x1x2048 .f32) (x1 : Vec F S2048x512 .f32) (x2 : Vec F S2048x128 .f32) (x3 : Vec F S2048x128 .f32) : FVec F S1920x128 .f32 :=
  k1_pay163 (View.ld x3 r1_71) -- `v1380`
def k1_pay246 (x0 : Vec F S1x1x2048 .f32) (x1 : Vec F S2048x512 .f32) (x2 : Vec F S2048x128 .f32) (x3 : Vec F S2048x128 .f32) : FVec F S128x128 .f32 :=
  k1_pay168 (k1_pay180 x0 x1 x2 x3) (k1_pay181 x0 x1 x2 x3) -- `v1467`
def k1_pay247 (x0 : Vec F S1x1x2048 .f32) (x1 : Vec F S2048x512 .f32) (x2 : Vec F S2048x128 .f32) (x3 : Vec F S2048x128 .f32) : FVec F S128x128 .f32 :=
  k1_pay169 (k1_pay180 x0 x1 x2 x3) (k1_pay182 x0 x1 x2 x3) (k1_pay183 x0 x1 x2 x3) -- `v1476`
def k1_pay248 (x0 : Vec F S1x1x2048 .f32) (x1 : Vec F S2048x512 .f32) (x2 : Vec F S2048x128 .f32) (x3 : Vec F S2048x128 .f32) : FVec F S2048x128 .f32 :=
  k1_pay170 (View.ld x2 r1_76) -- `v1478`
def k1_pay249 (x0 : Vec F S1x1x2048 .f32) (x1 : Vec F S2048x512 .f32) (x2 : Vec F S2048x128 .f32) (x3 : Vec F S2048x128 .f32) : FVec F S2048x128 .f32 :=
  k1_pay171 (View.ld x3 r1_76) -- `v1480`

/-- Window 4's staging buffer after the body, from the input windows' blocks: its 64 stores as pieces, LAST
    FIRST (Lib/Pipeline/FrameBody.lean `View.canon`; the payloads are the skeleton's and the values stated above). -/
def out1_4 (x0 : Vec F S1x1x2048 .f32) (x1 : Vec F S2048x512 .f32) (x2 : Vec F S2048x128 .f32) (x3 : Vec F S2048x128 .f32) : Vec F S2048x512 .f32 :=
  View.canon [⟨r1_80, k1_pay179 (k1_pay180 x0 x1 x2 x3) (k1_pay246 x0 x1 x2 x3) (k1_pay247 x0 x1 x2 x3) (k1_pay248 x0 x1 x2 x3) (k1_pay249 x0 x1 x2 x3) (k1_pay177 (View.ld x1 r1_80)) (k1_pay178 (F := F))⟩,
    ⟨r1_79, k1_pay176 (k1_pay180 x0 x1 x2 x3) (k1_pay246 x0 x1 x2 x3) (k1_pay247 x0 x1 x2 x3) (k1_pay248 x0 x1 x2 x3) (k1_pay249 x0 x1 x2 x3) (View.ld x1 r1_79)⟩,
    ⟨r1_78, k1_pay175 (k1_pay180 x0 x1 x2 x3) (k1_pay246 x0 x1 x2 x3) (k1_pay247 x0 x1 x2 x3) (k1_pay248 x0 x1 x2 x3) (k1_pay249 x0 x1 x2 x3) (k1_pay173 (View.ld x1 r1_78)) (k1_pay174 (F := F))⟩,
    ⟨r1_77, k1_pay172 (k1_pay180 x0 x1 x2 x3) (k1_pay181 x0 x1 x2 x3) (k1_pay182 x0 x1 x2 x3) (k1_pay183 x0 x1 x2 x3) (View.ld x2 r1_76) (View.ld x3 r1_76) (View.ld x1 r1_77)⟩,
    ⟨r1_75, k1_pay167 (k1_pay180 x0 x1 x2 x3) (k1_pay242 x0 x1 x2 x3) (k1_pay243 x0 x1 x2 x3) (k1_pay244 x0 x1 x2 x3) (k1_pay245 x0 x1 x2 x3) (View.ld x1 r1_75)⟩,
    ⟨r1_74, k1_pay166 (k1_pay180 x0 x1 x2 x3) (k1_pay242 x0 x1 x2 x3) (k1_pay243 x0 x1 x2 x3) (k1_pay244 x0 x1 x2 x3) (k1_pay245 x0 x1 x2 x3) (View.ld x1 r1_74)⟩,
    ⟨r1_73, k1_pay165 (k1_pay180 x0 x1 x2 x3) (k1_pay242 x0 x1 x2 x3) (k1_pay243 x0 x1 x2 x3) (k1_pay244 x0 x1 x2 x3) (View.ld x3 r1_71) (View.ld x1 r1_73)⟩,
    ⟨r1_72, k1_pay164 (k1_pay180 x0 x1 x2 x3) (k1_pay242 x0 x1 x2 x3) (k1_pay243 x0 x1 x2 x3) (k1_pay244 x0 x1 x2 x3) (View.ld x3 r1_71) (View.ld x1 r1_72)⟩,
    ⟨r1_70, k1_pay159 (k1_pay180 x0 x1 x2 x3) (k1_pay238 x0 x1 x2 x3) (k1_pay239 x0 x1 x2 x3) (k1_pay240 x0 x1 x2 x3) (k1_pay241 x0 x1 x2 x3) (View.ld x1 r1_70)⟩,
    ⟨r1_69, k1_pay158 (k1_pay241 x0 x1 x2 x3) (k1_pay157 (k1_pay180 x0 x1 x2 x3) (k1_pay238 x0 x1 x2 x3) (k1_pay239 x0 x1 x2 x3) (k1_pay240 x0 x1 x2 x3) (View.ld x1 r1_69))⟩,
    ⟨r1_68, k1_pay156 (k1_pay180 x0 x1 x2 x3) (k1_pay238 x0 x1 x2 x3) (k1_pay239 x0 x1 x2 x3) (k1_pay240 x0 x1 x2 x3) (k1_pay241 x0 x1 x2 x3) (View.ld x1 r1_68)⟩,
    ⟨r1_67, k1_pay155 (k1_pay241 x0 x1 x2 x3) (k1_pay154 (k1_pay180 x0 x1 x2 x3) (k1_pay181 x0 x1 x2 x3) (k1_pay182 x0 x1 x2 x3) (k1_pay183 x0 x1 x2 x3) (View.ld x2 r1_66) (View.ld x1 r1_67))⟩,
    ⟨r1_65, k1_pay149 (k1_pay233 x0 x1 x2 x3) (k1_pay235 x0 x1 x2 x3) (k1_pay237 x0 x1 x2 x3) (k1_pay146 (k1_pay236 x0 x1 x2 x3) (View.ld x1 r1_65)) (k1_pay147 (k1_pay236 x0 x1 x2 x3) (View.ld x1 r1_65)) (k1_pay148 (k1_pay180 x0 x1 x2 x3))⟩,
    ⟨r1_64, k1_pay145 (k1_pay180 x0 x1 x2 x3) (k1_pay233 x0 x1 x2 x3) (k1_pay235 x0 x1 x2 x3) (k1_pay236 x0 x1 x2 x3) (k1_pay237 x0 x1 x2 x3) (View.ld x1 r1_64)⟩,
    ⟨r1_63, k1_pay144 (k1_pay233 x0 x1 x2 x3) (k1_pay235 x0 x1 x2 x3) (k1_pay237 x0 x1 x2 x3) (k1_pay141 (View.ld x2 r1_61) (View.ld x1 r1_63)) (k1_pay142 (View.ld x2 r1_61) (View.ld x1 r1_63)) (k1_pay143 (k1_pay180 x0 x1 x2 x3))⟩,
    ⟨r1_62, k1_pay140 (k1_pay180 x0 x1 x2 x3) (k1_pay182 x0 x1 x2 x3) (k1_pay183 x0 x1 x2 x3) (k1_pay233 x0 x1 x2 x3) (k1_pay234 x0 x1 x2 x3) (View.ld x2 r1_61) (View.ld x3 r1_61) (View.ld x1 r1_62)⟩,
    ⟨r1_60, k1_pay134 (k1_pay180 x0 x1 x2 x3) (k1_pay229 x0 x1 x2 x3) (k1_pay230 x0 x1 x2 x3) (k1_pay231 x0 x1 x2 x3) (k1_pay232 x0 x1 x2 x3) (View.ld x1 r1_60)⟩,
    ⟨r1_59, k1_pay133 (k1_pay180 x0 x1 x2 x3) (k1_pay229 x0 x1 x2 x3) (k1_pay230 x0 x1 x2 x3) (k1_pay231 x0 x1 x2 x3) (k1_pay232 x0 x1 x2 x3) (k1_pay132 (View.ld x1 r1_59))⟩,
    ⟨r1_58, k1_pay131 (k1_pay180 x0 x1 x2 x3) (k1_pay229 x0 x1 x2 x3) (k1_pay230 x0 x1 x2 x3) (k1_pay231 x0 x1 x2 x3) (k1_pay232 x0 x1 x2 x3) (View.ld x1 r1_58)⟩,
    ⟨r1_57, k1_pay130 (k1_pay180 x0 x1 x2 x3) (k1_pay229 x0 x1 x2 x3) (k1_pay230 x0 x1 x2 x3) (k1_pay231 x0 x1 x2 x3) (k1_pay232 x0 x1 x2 x3) (k1_pay129 (View.ld x1 r1_57))⟩,
    ⟨r1_55, k1_pay124 (k1_pay180 x0 x1 x2 x3) (k1_pay225 x0 x1 x2 x3) (k1_pay226 x0 x1 x2 x3) (k1_pay227 x0 x1 x2 x3) (k1_pay228 x0 x1 x2 x3) (View.ld x1 r1_55)⟩,
    ⟨r1_54, k1_pay123 (k1_pay180 x0 x1 x2 x3) (k1_pay225 x0 x1 x2 x3) (k1_pay226 x0 x1 x2 x3) (k1_pay227 x0 x1 x2 x3) (k1_pay228 x0 x1 x2 x3) (View.ld x1 r1_54)⟩,
    ⟨r1_53, k1_pay122 (k1_pay180 x0 x1 x2 x3) (k1_pay225 x0 x1 x2 x3) (k1_pay226 x0 x1 x2 x3) (k1_pay227 x0 x1 x2 x3) (k1_pay228 x0 x1 x2 x3) (View.ld x1 r1_53)⟩,
    ⟨r1_52, k1_pay121 (k1_pay180 x0 x1 x2 x3) (k1_pay181 x0 x1 x2 x3) (k1_pay182 x0 x1 x2 x3) (k1_pay183 x0 x1 x2 x3) (View.ld x2 r1_51) (View.ld x3 r1_51) (View.ld x1 r1_52)⟩,
    ⟨r1_50, k1_pay116 (k1_pay224 x0 x1 x2 x3) (k1_pay113 (k1_pay180 x0 x1 x2 x3) (k1_pay223 x0 x1 x2 x3) (View.ld x1 r1_50)) (k1_pay114 (k1_pay219 x0 x1 x2 x3) (k1_pay223 x0 x1 x2 x3) (View.ld x1 r1_50)) (k1_pay115 (k1_pay222 x0 x1 x2 x3) (k1_pay223 x0 x1 x2 x3) (View.ld x1 r1_50))⟩,
    ⟨r1_49, k1_pay111 (k1_pay180 x0 x1 x2 x3) (k1_pay219 x0 x1 x2 x3) (k1_pay222 x0 x1 x2 x3) (k1_pay223 x0 x1 x2 x3) (k1_pay224 x0 x1 x2 x3) (View.ld x1 r1_49)⟩,
    ⟨r1_48, k1_pay110 (k1_pay224 x0 x1 x2 x3) (k1_pay107 (k1_pay180 x0 x1 x2 x3) (View.ld x2 r1_46) (View.ld x1 r1_48)) (k1_pay108 (k1_pay219 x0 x1 x2 x3) (View.ld x2 r1_46) (View.ld x1 r1_48)) (k1_pay109 (k1_pay220 x0 x1 x2 x3) (k1_pay221 x0 x1 x2 x3) (View.ld x2 r1_46) (View.ld x1 r1_48))⟩,
    ⟨r1_47, k1_pay105 (k1_pay180 x0 x1 x2 x3) (k1_pay219 x0 x1 x2 x3) (k1_pay220 x0 x1 x2 x3) (k1_pay221 x0 x1 x2 x3) (View.ld x2 r1_46) (View.ld x3 r1_46) (View.ld x1 r1_47)⟩,
    ⟨r1_45, k1_pay98 (k1_pay180 x0 x1 x2 x3) (k1_pay215 x0 x1 x2 x3) (k1_pay216 x0 x1 x2 x3) (k1_pay217 x0 x1 x2 x3) (k1_pay218 x0 x1 x2 x3) (View.ld x1 r1_45)⟩,
    ⟨r1_44, k1_pay97 (k1_pay180 x0 x1 x2 x3) (k1_pay215 x0 x1 x2 x3) (k1_pay216 x0 x1 x2 x3) (k1_pay218 x0 x1 x2 x3) (k1_pay96 (k1_pay217 x0 x1 x2 x3) (View.ld x1 r1_44))⟩,
    ⟨r1_43, k1_pay95 (k1_pay180 x0 x1 x2 x3) (k1_pay215 x0 x1 x2 x3) (k1_pay216 x0 x1 x2 x3) (k1_pay217 x0 x1 x2 x3) (k1_pay218 x0 x1 x2 x3) (View.ld x1 r1_43)⟩,
    ⟨r1_42, k1_pay94 (k1_pay180 x0 x1 x2 x3) (k1_pay215 x0 x1 x2 x3) (k1_pay216 x0 x1 x2 x3) (k1_pay218 x0 x1 x2 x3) (k1_pay93 (View.ld x2 r1_41) (View.ld x1 r1_42))⟩,
    ⟨r1_40, k1_pay88 (k1_pay180 x0 x1 x2 x3) (k1_pay211 x0 x1 x2 x3) (k1_pay212 x0 x1 x2 x3) (k1_pay213 x0 x1 x2 x3) (k1_pay214 x0 x1 x2 x3) (View.ld x1 r1_40)⟩,
    ⟨r1_39, k1_pay87 (k1_pay180 x0 x1 x2 x3) (k1_pay211 x0 x1 x2 x3) (k1_pay212 x0 x1 x2 x3) (k1_pay213 x0 x1 x2 x3) (k1_pay214 x0 x1 x2 x3) (View.ld x1 r1_39)⟩,
    ⟨r1_38, k1_pay86 (k1_pay180 x0 x1 x2 x3) (k1_pay211 x0 x1 x2 x3) (k1_pay212 x0 x1 x2 x3) (k1_pay213 x0 x1 x2 x3) (k1_pay214 x0 x1 x2 x3) (View.ld x1 r1_38)⟩,
    ⟨r1_37, k1_pay85 (k1_pay180 x0 x1 x2 x3) (k1_pay181 x0 x1 x2 x3) (k1_pay182 x0 x1 x2 x3) (k1_pay183 x0 x1 x2 x3) (View.ld x2 r1_36) (View.ld x3 r1_36) (View.ld x1 r1_37)⟩,
    ⟨r1_35, k1_pay80 (k1_pay78 (k1_pay180 x0 x1 x2 x3) (k1_pay207 x0 x1 x2 x3) (k1_pay208 x0 x1 x2 x3) (k1_pay209 x0 x1 x2 x3) (View.ld x1 r1_35)) (k1_pay79 (k1_pay180 x0 x1 x2 x3) (k1_pay207 x0 x1 x2 x3) (k1_pay208 x0 x1 x2 x3) (k1_pay209 x0 x1 x2 x3) (k1_pay210 x0 x1 x2 x3) (View.ld x1 r1_35))⟩,
    ⟨r1_34, k1_pay76 (k1_pay180 x0 x1 x2 x3) (k1_pay207 x0 x1 x2 x3) (k1_pay208 x0 x1 x2 x3) (k1_pay209 x0 x1 x2 x3) (k1_pay210 x0 x1 x2 x3) (View.ld x1 r1_34)⟩,
    ⟨r1_33, k1_pay75 (k1_pay73 (k1_pay180 x0 x1 x2 x3) (k1_pay207 x0 x1 x2 x3) (k1_pay208 x0 x1 x2 x3) (View.ld x2 r1_31) (View.ld x1 r1_33)) (k1_pay74 (k1_pay180 x0 x1 x2 x3) (k1_pay207 x0 x1 x2 x3) (k1_pay208 x0 x1 x2 x3) (View.ld x2 r1_31) (View.ld x3 r1_31) (View.ld x1 r1_33))⟩,
    ⟨r1_32, k1_pay71 (k1_pay180 x0 x1 x2 x3) (k1_pay207 x0 x1 x2 x3) (k1_pay208 x0 x1 x2 x3) (View.ld x2 r1_31) (View.ld x3 r1_31) (View.ld x1 r1_32)⟩,
    ⟨r1_30, k1_pay66 (k1_pay180 x0 x1 x2 x3) (k1_pay203 x0 x1 x2 x3) (k1_pay204 x0 x1 x2 x3) (k1_pay205 x0 x1 x2 x3) (k1_pay206 x0 x1 x2 x3) (View.ld x1 r1_30)⟩,
    ⟨r1_29, k1_pay65 (k1_pay204 x0 x1 x2 x3) (k1_pay206 x0 x1 x2 x3) (k1_pay62 (k1_pay205 x0 x1 x2 x3) (View.ld x1 r1_29)) (k1_pay63 (k1_pay180 x0 x1 x2 x3) (k1_pay205 x0 x1 x2 x3) (View.ld x1 r1_29)) (k1_pay64 (k1_pay203 x0 x1 x2 x3) (k1_pay205 x0 x1 x2 x3) (View.ld x1 r1_29))⟩,
    ⟨r1_28, k1_pay61 (k1_pay180 x0 x1 x2 x3) (k1_pay203 x0 x1 x2 x3) (k1_pay204 x0 x1 x2 x3) (k1_pay205 x0 x1 x2 x3) (k1_pay206 x0 x1 x2 x3) (View.ld x1 r1_28)⟩,
    ⟨r1_27, k1_pay60 (k1_pay204 x0 x1 x2 x3) (k1_pay206 x0 x1 x2 x3) (k1_pay57 (View.ld x2 r1_26) (View.ld x1 r1_27)) (k1_pay58 (k1_pay180 x0 x1 x2 x3) (View.ld x2 r1_26) (View.ld x1 r1_27)) (k1_pay59 (k1_pay180 x0 x1 x2 x3) (k1_pay181 x0 x1 x2 x3) (View.ld x2 r1_26) (View.ld x1 r1_27))⟩,
    ⟨r1_25, k1_pay52 (k1_pay180 x0 x1 x2 x3) (k1_pay199 x0 x1 x2 x3) (k1_pay200 x0 x1 x2 x3) (k1_pay201 x0 x1 x2 x3) (k1_pay202 x0 x1 x2 x3) (k1_pay51 (View.ld x1 r1_25)) (constant S128x640 .f32 0x00000000#32)⟩,
    ⟨r1_24, k1_pay50 (k1_pay180 x0 x1 x2 x3) (k1_pay199 x0 x1 x2 x3) (k1_pay200 x0 x1 x2 x3) (k1_pay201 x0 x1 x2 x3) (k1_pay202 x0 x1 x2 x3) (View.ld x1 r1_24)⟩,
    ⟨r1_23, k1_pay49 (k1_pay180 x0 x1 x2 x3) (k1_pay199 x0 x1 x2 x3) (k1_pay200 x0 x1 x2 x3) (k1_pay201 x0 x1 x2 x3) (k1_pay202 x0 x1 x2 x3) (k1_pay48 (View.ld x1 r1_23)) (constant S128x640 .f32 0x00000000#32)⟩,
    ⟨r1_22, k1_pay47 (k1_pay180 x0 x1 x2 x3) (k1_pay181 x0 x1 x2 x3) (k1_pay182 x0 x1 x2 x3) (k1_pay183 x0 x1 x2 x3) (View.ld x2 r1_21) (View.ld x3 r1_21) (View.ld x1 r1_22)⟩,
    ⟨r1_20, k1_pay42 (k1_pay180 x0 x1 x2 x3) (k1_pay195 x0 x1 x2 x3) (k1_pay196 x0 x1 x2 x3) (k1_pay197 x0 x1 x2 x3) (k1_pay198 x0 x1 x2 x3) (View.ld x1 r1_20)⟩,
    ⟨r1_19, k1_pay41 (k1_pay180 x0 x1 x2 x3) (k1_pay195 x0 x1 x2 x3) (k1_pay196 x0 x1 x2 x3) (k1_pay197 x0 x1 x2 x3) (k1_pay198 x0 x1 x2 x3) (View.ld x1 r1_19)⟩,
    ⟨r1_18, k1_pay40 (k1_pay180 x0 x1 x2 x3) (k1_pay195 x0 x1 x2 x3) (k1_pay196 x0 x1 x2 x3) (k1_pay197 x0 x1 x2 x3) (k1_pay198 x0 x1 x2 x3) (View.ld x1 r1_18)⟩,
    ⟨r1_17, k1_pay39 (k1_pay180 x0 x1 x2 x3) (k1_pay195 x0 x1 x2 x3) (k1_pay196 x0 x1 x2 x3) (k1_pay197 x0 x1 x2 x3) (k1_pay198 x0 x1 x2 x3) (View.ld x1 r1_17)⟩,
    ⟨r1_15, k1_pay34 (k1_pay180 x0 x1 x2 x3) (k1_pay191 x0 x1 x2 x3) (k1_pay192 x0 x1 x2 x3) (k1_pay193 x0 x1 x2 x3) (k1_pay194 x0 x1 x2 x3) (View.ld x1 r1_15)⟩,
    ⟨r1_14, k1_pay33 (k1_pay194 x0 x1 x2 x3) (k1_pay31 (k1_pay180 x0 x1 x2 x3) (k1_pay191 x0 x1 x2 x3) (k1_pay192 x0 x1 x2 x3) (k1_pay193 x0 x1 x2 x3) (View.ld x1 r1_14)) (k1_pay32 (k1_pay180 x0 x1 x2 x3) (k1_pay191 x0 x1 x2 x3) (k1_pay192 x0 x1 x2 x3) (k1_pay193 x0 x1 x2 x3) (View.ld x1 r1_14))⟩,
    ⟨r1_13, k1_pay30 (k1_pay180 x0 x1 x2 x3) (k1_pay191 x0 x1 x2 x3) (k1_pay192 x0 x1 x2 x3) (k1_pay193 x0 x1 x2 x3) (k1_pay194 x0 x1 x2 x3) (View.ld x1 r1_13)⟩,
    ⟨r1_12, k1_pay29 (k1_pay194 x0 x1 x2 x3) (k1_pay27 (k1_pay180 x0 x1 x2 x3) (k1_pay181 x0 x1 x2 x3) (k1_pay182 x0 x1 x2 x3) (k1_pay183 x0 x1 x2 x3) (View.ld x2 r1_11) (View.ld x1 r1_12)) (k1_pay28 (k1_pay180 x0 x1 x2 x3) (k1_pay181 x0 x1 x2 x3) (k1_pay182 x0 x1 x2 x3) (k1_pay183 x0 x1 x2 x3) (View.ld x2 r1_11) (View.ld x1 r1_12))⟩,
    ⟨r1_10, k1_pay22 (k1_pay187 x0 x1 x2 x3) (k1_pay188 x0 x1 x2 x3) (k1_pay190 x0 x1 x2 x3) (k1_pay21 (k1_pay189 x0 x1 x2 x3) (View.ld x1 r1_10))⟩,
    ⟨r1_9, k1_pay20 (k1_pay187 x0 x1 x2 x3) (k1_pay188 x0 x1 x2 x3) (k1_pay189 x0 x1 x2 x3) (k1_pay190 x0 x1 x2 x3) (View.ld x1 r1_9)⟩,
    ⟨r1_8, k1_pay19 (k1_pay187 x0 x1 x2 x3) (k1_pay188 x0 x1 x2 x3) (k1_pay189 x0 x1 x2 x3) (k1_pay190 x0 x1 x2 x3) (View.ld x1 r1_8)⟩,
    ⟨r1_7, k1_pay18 (k1_pay180 x0 x1 x2 x3) (k1_pay181 x0 x1 x2 x3) (k1_pay182 x0 x1 x2 x3) (k1_pay183 x0 x1 x2 x3) (View.ld x2 r1_6) (View.ld x3 r1_6) (View.ld x1 r1_7)⟩,
    ⟨r1_5, k1_pay13 (k1_pay186 x0 x1 x2 x3) (k1_pay12 (k1_pay184 x0 x1 x2 x3) (k1_pay185 x0 x1 x2 x3) (View.ld x1 r1_5))⟩,
    ⟨r1_4, k1_pay11 (k1_pay184 x0 x1 x2 x3) (k1_pay185 x0 x1 x2 x3) (k1_pay186 x0 x1 x2 x3) (View.ld x1 r1_4)⟩,
    ⟨r1_3, k1_pay10 (k1_pay184 x0 x1 x2 x3) (k1_pay185 x0 x1 x2 x3) (k1_pay186 x0 x1 x2 x3) (View.ld x1 r1_3)⟩,
    ⟨r1_2, k1_pay9 (View.ld x0 r1_0) (View.ld x2 r1_1) (View.ld x3 r1_1) (View.ld x1 r1_2)⟩]

/-- Its stores tile the buffer (checked by evaluation), so they cover it. -/
theorem cover1_4 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (p16 : Vec F S128x128 .f32) (p17 : Vec F S128x128 .f32) (p18 : Vec F S128x128 .f32) (p19 : Vec F S128x128 .f32) (p20 : Vec F S128x128 .f32) (p21 : Vec F S128x128 .f32) (p22 : Vec F S128x128 .f32) (p23 : Vec F S128x128 .f32) (p24 : Vec F S128x128 .f32) (p25 : Vec F S128x128 .f32) (p26 : Vec F S128x128 .f32) (p27 : Vec F S128x128 .f32) (p28 : Vec F S128x128 .f32) (p29 : Vec F S128x128 .f32) (p30 : Vec F S128x128 .f32) (p31 : Vec F S128x128 .f32) (p32 : Vec F S128x128 .f32) (p33 : Vec F S128x128 .f32) (p34 : Vec F S128x128 .f32) (p35 : Vec F S128x128 .f32) (p36 : Vec F S128x128 .f32) (p37 : Vec F S128x128 .f32) (p38 : Vec F S128x128 .f32) (p39 : Vec F S128x128 .f32) (p40 : Vec F S128x128 .f32) (p41 : Vec F S128x128 .f32) (p42 : Vec F S128x128 .f32) (p43 : Vec F S128x128 .f32) (p44 : Vec F S128x128 .f32) (p45 : Vec F S128x128 .f32) (p46 : Vec F S128x128 .f32) (p47 : Vec F S128x128 .f32) (p48 : Vec F S128x128 .f32) (p49 : Vec F S128x128 .f32) (p50 : Vec F S128x128 .f32) (p51 : Vec F S128x128 .f32) (p52 : Vec F S128x128 .f32) (p53 : Vec F S128x128 .f32) (p54 : Vec F S128x128 .f32) (p55 : Vec F S128x128 .f32) (p56 : Vec F S128x128 .f32) (p57 : Vec F S128x128 .f32) (p58 : Vec F S128x128 .f32) (p59 : Vec F S128x128 .f32) (p60 : Vec F S128x128 .f32) (p61 : Vec F S128x128 .f32) (p62 : Vec F S128x128 .f32) (p63 : Vec F S128x128 .f32) (y : S2048x512.Idx) :
    ∃ pc ∈ ([⟨r1_80, p0⟩, ⟨r1_79, p1⟩, ⟨r1_78, p2⟩, ⟨r1_77, p3⟩, ⟨r1_75, p4⟩, ⟨r1_74, p5⟩, ⟨r1_73, p6⟩, ⟨r1_72, p7⟩, ⟨r1_70, p8⟩, ⟨r1_69, p9⟩, ⟨r1_68, p10⟩, ⟨r1_67, p11⟩, ⟨r1_65, p12⟩, ⟨r1_64, p13⟩, ⟨r1_63, p14⟩, ⟨r1_62, p15⟩, ⟨r1_60, p16⟩, ⟨r1_59, p17⟩, ⟨r1_58, p18⟩, ⟨r1_57, p19⟩, ⟨r1_55, p20⟩, ⟨r1_54, p21⟩, ⟨r1_53, p22⟩, ⟨r1_52, p23⟩, ⟨r1_50, p24⟩, ⟨r1_49, p25⟩, ⟨r1_48, p26⟩, ⟨r1_47, p27⟩, ⟨r1_45, p28⟩, ⟨r1_44, p29⟩, ⟨r1_43, p30⟩, ⟨r1_42, p31⟩, ⟨r1_40, p32⟩, ⟨r1_39, p33⟩, ⟨r1_38, p34⟩, ⟨r1_37, p35⟩, ⟨r1_35, p36⟩, ⟨r1_34, p37⟩, ⟨r1_33, p38⟩, ⟨r1_32, p39⟩, ⟨r1_30, p40⟩, ⟨r1_29, p41⟩, ⟨r1_28, p42⟩, ⟨r1_27, p43⟩, ⟨r1_25, p44⟩, ⟨r1_24, p45⟩, ⟨r1_23, p46⟩, ⟨r1_22, p47⟩, ⟨r1_20, p48⟩, ⟨r1_19, p49⟩, ⟨r1_18, p50⟩, ⟨r1_17, p51⟩, ⟨r1_15, p52⟩, ⟨r1_14, p53⟩, ⟨r1_13, p54⟩, ⟨r1_12, p55⟩, ⟨r1_10, p56⟩, ⟨r1_9, p57⟩, ⟨r1_8, p58⟩, ⟨r1_7, p59⟩, ⟨r1_5, p60⟩, ⟨r1_4, p61⟩, ⟨r1_3, p62⟩, ⟨r1_2, p63⟩] : List (View.Piece (Elt F) S2048x512 .f32)), y ∈ pc.1.set :=
  View.cover_of_tiled [⟨r1_80, p0⟩, ⟨r1_79, p1⟩, ⟨r1_78, p2⟩, ⟨r1_77, p3⟩, ⟨r1_75, p4⟩, ⟨r1_74, p5⟩, ⟨r1_73, p6⟩, ⟨r1_72, p7⟩, ⟨r1_70, p8⟩, ⟨r1_69, p9⟩, ⟨r1_68, p10⟩, ⟨r1_67, p11⟩, ⟨r1_65, p12⟩, ⟨r1_64, p13⟩, ⟨r1_63, p14⟩, ⟨r1_62, p15⟩, ⟨r1_60, p16⟩, ⟨r1_59, p17⟩, ⟨r1_58, p18⟩, ⟨r1_57, p19⟩, ⟨r1_55, p20⟩, ⟨r1_54, p21⟩, ⟨r1_53, p22⟩, ⟨r1_52, p23⟩, ⟨r1_50, p24⟩, ⟨r1_49, p25⟩, ⟨r1_48, p26⟩, ⟨r1_47, p27⟩, ⟨r1_45, p28⟩, ⟨r1_44, p29⟩, ⟨r1_43, p30⟩, ⟨r1_42, p31⟩, ⟨r1_40, p32⟩, ⟨r1_39, p33⟩, ⟨r1_38, p34⟩, ⟨r1_37, p35⟩, ⟨r1_35, p36⟩, ⟨r1_34, p37⟩, ⟨r1_33, p38⟩, ⟨r1_32, p39⟩, ⟨r1_30, p40⟩, ⟨r1_29, p41⟩, ⟨r1_28, p42⟩, ⟨r1_27, p43⟩, ⟨r1_25, p44⟩, ⟨r1_24, p45⟩, ⟨r1_23, p46⟩, ⟨r1_22, p47⟩, ⟨r1_20, p48⟩, ⟨r1_19, p49⟩, ⟨r1_18, p50⟩, ⟨r1_17, p51⟩, ⟨r1_15, p52⟩, ⟨r1_14, p53⟩, ⟨r1_13, p54⟩, ⟨r1_12, p55⟩, ⟨r1_10, p56⟩, ⟨r1_9, p57⟩, ⟨r1_8, p58⟩, ⟨r1_7, p59⟩, ⟨r1_5, p60⟩, ⟨r1_4, p61⟩, ⟨r1_3, p62⟩, ⟨r1_2, p63⟩] S128x128.size (by rfl) y

/-! ## The body's triple -/

set_option maxHeartbeats 1476000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x1x2048 .f32) (harg1 : arg1.IsWhole) (arg2 : Memref sig .tc .vmem S2048x512 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x512 .f32) (harg5 : arg5.IsWhole)
    (x0 : Vec F S1x1x2048 .f32) (x1 : Vec F S2048x512 .f32) (x2 : Vec F S2048x128 .f32) (x3 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  simp only [k1_part38_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.KI

end
-- ==== Proof.KI.R2.lean ====
/-
The output projection call: what its body leaves in the output window, and its body obligation, at any contents `V` the call is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S512x2048 .f32) (x1 : Vec F S2048x2048 .f32) : Vec F S512x2048 .f32 :=
  View.canon [⟨r2_0, k2_pay1 (View.ld x0 r2_0) (View.ld x1 r2_1)⟩]

/-- Its stores tile the buffer (checked by evaluation), so they cover it. -/
theorem cover2_2 (p0 : Vec F S512x2048 .f32) (y : S512x2048.Idx) :
    ∃ pc ∈ ([⟨r2_0, p0⟩] : List (View.Piece (Elt F) S512x2048 .f32)), y ∈ pc.1.set :=
  View.cover_of_tiled [⟨r2_0, p0⟩] S512x2048.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S512x2048 .f32) (harg1 : arg1.IsWhole) (arg2 : Memref sig .tc .vmem S2048x2048 .f32) (harg2 : arg2.IsWhole) (arg3 : Memref sig .tc .vmem S512x2048 .f32) (harg3 : arg3.IsWhole)
    (x0 : Vec F S512x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__outproj_kernel i arg1 harg1 arg2 harg2 arg3 harg3) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Proof.KI

end
-- ==== Proof.KI.Run.lean ====
/-
The whole run: the launch, the host stretches and the three calls, chained. Every buffer that outlives the calls ends at named contents.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.KI.D0
public import proofs.«01_k».proof.Proof.KI.R1
public import proofs.«01_k».proof.Proof.KI.R2
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the projection call's arrays may hold at the end -/

section Arrays

variable (V : (c : Dev nD) → (b : Ref sig .tc) → Buf (Elt F) ((c : Thread nD τ).loc b))

/-- The relational data of the projection call allow each array one content only: the one that the exact data name. -/
theorem arrAt0_unique (c : Dev nD) (w : Fin cfg0.W) (G : Buf (Elt F) ((cfg0.win w).arr.view.loc (c.tc : Thread nD τ)))
    (hG : ((dat0 V c).toRRel fgt0 (Rl0 V c)).ArrAt w cfg0.N G) : G = (dat0 V c).arrAt w cfg0.N := by
  by_cases hw : w = 10
  · subst hw
    obtain ⟨X, hX, hA⟩ := hG.exists_exact
    exact hA (dat0 V c).after fun u hu hf => by
      have h' : Rl0 V c 10 u (X u) := (dat0 V c).toRRel_leaves (fgt := fgt0) (Rl := Rl0 V c) (w := 10) rfl (hX u hu hf)
      rw [after0_10]
      exact (Rl0_last V c u ((flush0_10 u).mp hf) (X u) h').symm
  · have hf : fgt0 w = false := by clear hG G; revert hw; revert w; decide
    exact (((dat0 V c).toR.override_arrAt (by simp only [hf]) _ _).trans ((dat0 V c).toR_arrAt_iff w _ _)).mp hG

/-- So the arrays at what they may hold are the arrays at what the exact data name. -/
theorem arraysAt0 (c : Dev nD) :
    ((dat0 V c).toRRel fgt0 (Rl0 V c)).arraysAt cfg0.N ⊢ ((dat0 V c).arrays ((dat0 V c).arrAt · cfg0.N) : sProp 𝕄) := by
  unfold Pipeline.RDat.arraysAt Dat.arrays
  refine bigSep_mono fun w _ => ?_
  show iprop(∃ F, ⌜((dat0 V c).toRRel fgt0 (Rl0 V c)).ArrAt w cfg0.N F⌝ ∗ (cfg0.win w).arr.view.loc (c.tc : Thread nD τ) ↦[(cfg0.win w).arr.view.set]{(dat0 V c).share w} F)
      ⊢ ((cfg0.win w).arr.view.loc (c.tc : Thread nD τ) ↦[(cfg0.win w).arr.view.set]{(dat0 V c).share w} (dat0 V c).arrAt w cfg0.N : sProp 𝕄)
  iintro ⟨%G, %hG, H⟩
  rw [← arrAt0_unique V c w G hG]
  iexact H

end Arrays

/-! ## The contents at each boundary -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11]

theorem hostOps0_args : ∀ a ∈ argRefs, a ∉ hostOps0_W := ListAll.forall_mem_of_all_decide (by decide +kernel)
theorem hostOps0_1_args : ∀ a ∈ argRefs, a ∉ hostOps0_1_W := ListAll.forall_mem_of_all_decide (by decide +kernel)
theorem hostOps1_args : ∀ a ∈ argRefs, a ∉ hostOps1_W := ListAll.forall_mem_of_all_decide (by decide +kernel)
theorem hostOps3_args : ∀ a ∈ argRefs, a ∉ hostOps3_W := ListAll.forall_mem_of_all_decide (by decide +kernel)

/-- The buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- The buffers after `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)

/-- The buffers after `hostOps0_1`. -/
abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W2_args (c : Dev nD) : ∀ a ∈ argRefs, W2 m c (Proc.devRef .tc a) = m ((c : Thread nD τ).loc a) :=
  fun a ha => (W2_of m c a (hostOps0_1_args a ha)).trans (W1_args m c a ha)

/-- What call 0 is entered with, at the TensorCore's references. -/
abbrev E0 : (c : Dev nD) → (b : Ref sig .tc) → Buf (Elt F) ((c : Thread nD τ).loc b) := fun c b => W2 m c b
/-- The buffers after call 0: its arrays at what its pipeline leaves, every other as before. -/
def W3 (c : Dev nD) : Valuation τ sig (Elt F) :=
  Pipeline.withArrays spec0 c (W2 m c) fun w => (dat0 (E0 m) c).arrAt w cfg0.N
theorem W3_arr (c : Dev nD) (w : Fin cfg0.W) :
    W3 m c (Proc.devRef .tc (Pipeline.arrRef spec0 w)) = (dat0 (E0 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- A reference that is no output of the call keeps its contents. -/
theorem W3_of (c : Dev nD) (r : Ref sig .tc) (h : ∀ w : Fin cfg0.W, Pipeline.arrRef spec0 w = r → (cfg0.win w).isOut = false) :
    W3 m c (Proc.devRef .tc r) = W2 m c (Proc.devRef .tc r) := by
  by_cases hw : ∃ w : Fin cfg0.W, Pipeline.arrRef spec0 w = r
  · obtain ⟨w, rfl⟩ := hw
    exact (W3_arr m c w).trans (((dat0 (E0 m) c).arrAt_in w (h w rfl) _).trans (A_eq0 (E0 m) c w))
  · exact W3_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn0 a ha)).trans (W2_args m c a ha)
/-- What call 0 leaves, at the TensorCore's references: its arrays at the pipeline's contents, every other as it was. -/
abbrev X0 : (c : Dev nD) → (b : Ref sig .tc) → Buf (Elt F) ((c : Thread nD τ).loc b) := fun c b => W3 m c b
theorem hF0 (c : Dev nD) (w : Fin cfg0.W) : (dat0 (E0 m) c).arrAt w cfg0.N = X0 m c (Pipeline.arrRef spec0 w) :=
  (W3_arr m c w).symm
theorem hrest0 (c : Dev nD) : ∀ b, b ∉ Finset.univ.image (Pipeline.arrRef spec0) → X0 m c b = E0 m c b :=
  fun b hb => W3_of_ne m c b fun w e => hb (Finset.mem_image.mpr ⟨w, Finset.mem_univ _, e⟩)

/-- The buffers after `hostOps1`. -/
abbrev W4 : Dev nD → Valuation τ sig (Elt F) := fun c => StableHlo.after hostOps1 (W3 m c)
theorem W4_of (c : Dev nD) (r : Ref sig .tc) (h : r ∉ hostOps1_W) : W4 m c (Proc.devRef .tc r) = W3 m c (Proc.devRef .tc r) :=
  StableHlo.after_of_writes_sub hostOps1 _ hostOps1_writes h
theorem W4_args (c : Dev nD) : ∀ a ∈ argRefs, W4 m c (Proc.devRef .tc a) = m ((c : Thread nD τ).loc a) :=
  fun a ha => (W4_of m c a (hostOps1_args a ha)).trans (W3_args m c a ha)

/-- What call 1 is entered with, at the TensorCore's references. -/
abbrev E1 : (c : Dev nD) → (b : Ref sig .tc) → Buf (Elt F) ((c : Thread nD τ).loc b) := fun c b => W4 m c b
/-- The buffers after call 1: its arrays at what its pipeline leaves, every other as before. -/
def W5 (c : Dev nD) : Valuation τ sig (Elt F) :=
  Pipeline.withArrays spec1 c (W4 m c) fun w => (dat1 (E1 m) c).arrAt w cfg1.N
theorem W5_arr (c : Dev nD) (w : Fin cfg1.W) :
    W5 m c (Proc.devRef .tc (Pipeline.arrRef spec1 w)) = (dat1 (E1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- A reference that is no output of the call keeps its contents. -/
theorem W5_of (c : Dev nD) (r : Ref sig .tc) (h : ∀ w : Fin cfg1.W, Pipeline.arrRef spec1 w = r → (cfg1.win w).isOut = false) :
    W5 m c (Proc.devRef .tc r) = W4 m c (Proc.devRef .tc r) := by
  by_cases hw : ∃ w : Fin cfg1.W, Pipeline.arrRef spec1 w = r
  · obtain ⟨w, rfl⟩ := hw
    exact (W5_arr m c w).trans (((dat1 (E1 m) c).arrAt_in w (h w rfl) _).trans (A_eq1 (E1 m) c w))
  · exact W5_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m c (Proc.devRef .tc a) = m ((c : Thread nD τ).loc a) :=
  fun a ha => (W5_of m c a (argsIn1 a ha)).trans (W4_args m c a ha)
/-- What call 1 leaves, at the TensorCore's references: its arrays at the pipeline's contents, every other as it was. -/
abbrev X1 : (c : Dev nD) → (b : Ref sig .tc) → Buf (Elt F) ((c : Thread nD τ).loc b) := fun c b => W5 m c b
theorem hF1 (c : Dev nD) (w : Fin cfg1.W) : (dat1 (E1 m) c).arrAt w cfg1.N = X1 m c (Pipeline.arrRef spec1 w) :=
  (W5_arr m c w).symm
theorem hrest1 (c : Dev nD) : ∀ b, b ∉ Finset.univ.image (Pipeline.arrRef spec1) → X1 m c b = E1 m c b :=
  fun b hb => W5_of_ne m c b fun w e => hb (Finset.mem_image.mpr ⟨w, Finset.mem_univ _, e⟩)

/-- What call 2 is entered with, at the TensorCore's references. -/
abbrev E2 : (c : Dev nD) → (b : Ref sig .tc) → Buf (Elt F) ((c : Thread nD τ).loc b) := fun c b => W5 m c b
/-- The buffers after call 2: its arrays at what its pipeline leaves, every other as before. -/
def W6 (c : Dev nD) : Valuation τ sig (Elt F) :=
  Pipeline.withArrays spec2 c (W5 m c) fun w => (dat2 (E2 m) c).arrAt w cfg2.N
theorem W6_arr (c : Dev nD) (w : Fin cfg2.W) :
    W6 m c (Proc.devRef .tc (Pipeline.arrRef spec2 w)) = (dat2 (E2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- A reference that is no output of the call keeps its contents. -/
theorem W6_of (c : Dev nD) (r : Ref sig .tc) (h : ∀ w : Fin cfg2.W, Pipeline.arrRef spec2 w = r → (cfg2.win w).isOut = false) :
    W6 m c (Proc.devRef .tc r) = W5 m c (Proc.devRef .tc r) := by
  by_cases hw : ∃ w : Fin cfg2.W, Pipeline.arrRef spec2 w = r
  · obtain ⟨w, rfl⟩ := hw
    exact (W6_arr m c w).trans (((dat2 (E2 m) c).arrAt_in w (h w rfl) _).trans (A_eq2 (E2 m) c w))
  · exact W6_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m c (Proc.devRef .tc a) = m ((c : Thread nD τ).loc a) :=
  fun a ha => (W6_of m c a (argsIn2 a ha)).trans (W5_args m c a ha)
/-- What call 2 leaves, at the TensorCore's references: its arrays at the pipeline's contents, every other as it was. -/
abbrev X2 : (c : Dev nD) → (b : Ref sig .tc) → Buf (Elt F) ((c : Thread nD τ).loc b) := fun c b => W6 m c b
theorem hF2 (c : Dev nD) (w : Fin cfg2.W) : (dat2 (E2 m) c).arrAt w cfg2.N = X2 m c (Pipeline.arrRef spec2 w) :=
  (W6_arr m c w).symm
theorem hrest2 (c : Dev nD) : ∀ b, b ∉ Finset.univ.image (Pipeline.arrRef spec2) → X2 m c b = E2 m c b :=
  fun b hb => W6_of_ne m c b fun w e => hb (Finset.mem_image.mpr ⟨w, Finset.mem_univ _, e⟩)

/-- The buffers after `hostOps3`. -/
abbrev W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ hostOps3_writes h
theorem W7_args (c : Dev nD) : ∀ a ∈ argRefs, W7 m c (Proc.devRef .tc a) = m ((c : Thread nD τ).loc a) :=
  fun a ha => (W7_of m c a (hostOps3_args a ha)).trans (W6_args m c a ha)

/-! ## The data of the three pipelines and what rides along -/

/-- The exact data, call by call; -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
/-- and the relational data the run is proved with: the projection's key window is held to a predicate, all else is exact. -/
def rdats : (p : Fin 3) → (c : Dev nD) → Pipeline.RDat τ (Elt F) Unit ℕ (UR sig nD τ) ℕ (Pipeline.pin (pcfgs (F := F)) adm p) c
  | ⟨0, _⟩ => fun c => (dat0 (E0 m) c).toRRel fgt0 (Rl0 (E0 m) c)
  | ⟨1, _⟩ => fun c => (dat1 (E1 m) c).toR
  | ⟨2, _⟩ => fun c => (dat2 (E2 m) c).toR
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Call 0 as a segment: from the buffers at `W2` to the buffers at `W3`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toRRel
  hwaits := Pipeline.RDat.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (E0 m c) (A_eq0 (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    have hx : (rdats m 0 c).arraysAt cfg0.N ⊢ ((pdats m 0 c).arrays ((pdats m 0 c).arrAt · cfg0.N) : sProp 𝕄) := arraysAt0 (E0 m) c
    refine (sep_mono hx .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Call 1 as a segment: from the buffers at `W4` to the buffers at `W5`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose.toR
  hwaits := Pipeline.RDat.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (E1 m c) (A_eq1 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    have hx : (rdats m 1 c).arraysAt cfg1.N ⊢ ((pdats m 1 c).arrays ((pdats m 1 c).arrAt · cfg1.N) : sProp 𝕄) := Entails.of_eq ((dat1 (E1 m) c).toR_arraysAt_eq cfg1.N)
    refine (sep_mono hx .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Call 2 as a segment: from the buffers at `W5` to the buffers at `W6`. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose.toR
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (E2 m c) (A_eq2 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    have hx : (rdats m 2 c).arraysAt cfg2.N ⊢ ((pdats m 2 c).arrays ((pdats m 2 c).arrAt · cfg2.N) : sProp 𝕄) := Entails.of_eq ((dat2 (E2 m) c).toR_arraysAt_eq cfg2.N)
    refine (sep_mono hx .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- @main's items in order. -/
def segs : List (Pipeline.RDat.Seg (pcfgs (F := F)) adm (rdats m) () defs₀ 𝒱₀ L lv) :=
  [.host (hseg hostOps0 hostOps0_sub hostOps0_fresh (W0 m)), .host (hseg hostOps0_1 hostOps0_1_sub hostOps0_1_fresh (W1 m)), .region (reg0 m), .host (hseg hostOps1 hostOps1_sub hostOps1_fresh (W3 m)), .region (reg1 m), .region (reg2 m), .host (hseg hostOps3 hostOps3_sub hostOps3_fresh (W6 m))]

/-- @main runs them. -/
theorem main_run (c : Dev nD) : main (F := F) c = Pipeline.RDat.Seg.run (segs m) := (main_chain c).trans (by chain_rfl)

theorem no_unscoped : ∀ sm : SemLoc sig, sm.isScoped .tc = true := by decide

set_option backward.isDefEq.respectTransparency.types false in
/-- THE RUN: from any memory with zero counters every execution ends, with every buffer that outlives the calls at `W7` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m c b) ∧ r.2.sem = fun _ => 0) :=
  Pipeline.RDat.θ_run_regions_kit_sems (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨h, funext fun g => hz g (.inr (no_unscoped g.2))⟩)

/-- The final contents of a buffer that outlives the calls, read off `run`'s postcondition. -/
theorem run_read {s : MemSt nD τ sig (Elt F)} (h : ∀ c : Dev nD, ∀ b ∈ Pipeline.ucRefs τ sig, s.mem (((c : Thread nD τ)).1, b) = W7 m c b)
    (c : Dev nD) (b : Ref sig .tc) (hb : ¬ (Proc.devRef .tc b : DevRef τ sig).isScoped) :
    s.mem ((c.tc : Thread nD τ).loc b) = W7 m c (Proc.devRef .tc b) := h c _ (mem_uc b hb)

/-- An argument among them is as launched. -/
theorem run_arg {s : MemSt nD τ sig (Elt F)} (h : ∀ c : Dev nD, ∀ b ∈ Pipeline.ucRefs τ sig, s.mem (((c : Thread nD τ)).1, b) = W7 m c b)
    (c : Dev nD) (b : Ref sig .tc) (hb : ¬ (Proc.devRef .tc b : DevRef τ sig).isScoped) (ha : b ∈ argRefs) :
    s.mem ((c.tc : Thread nD τ).loc b) = m ((c.tc : Thread nD τ).loc b) := (run_read m h c b hb).trans (W7_args m c b ha)

/-- THE FRAME: every execution ends, the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨run_arg m h.1 c main_arg0 (by decide) (by decide), run_arg m h.1 c main_arg1 (by decide) (by decide), run_arg m h.1 c main_arg2 (by decide) (by decide), run_arg m h.1 c main_arg3 (by decide) (by decide), run_arg m h.1 c main_arg4 (by decide) (by decide), run_arg m h.1 c main_arg5 (by decide) (by decide), run_arg m h.1 c main_arg6 (by decide) (by decide), run_arg m h.1 c main_arg7 (by decide) (by decide), run_arg m h.1 c main_arg8 (by decide) (by decide), run_arg m h.1 c main_arg9 (by decide) (by decide), run_arg m h.1 c main_arg10 (by decide) (by decide), run_arg m h.1 c main_arg11 (by decide) (by decide)⟩, h.2⟩) (run m ρ)

end Cert.Proof.KI

end
-- ==== Proof.Val.Sel.lean ====
/-
The gate's arithmetic as the projection call's last point does it, cut into one round of the selection and its repetition.
-/
module

public import proofs.«01_k».proof.Proof.KI.D0
public import Idealize.ShloMosaic.Lib.Pointwise

@[expose] public section

set_option maxRecDepth 16384

noncomputable section

namespace Cert.Proof.Val

open Cert.KernelIdeal Cert.KernelIdeal.Gen Cert.Proof.KI
open Idealize.ShloMosaic

/-- The lane of each element. -/
def laneV : IVec S8x128 32 := iota .tc S8x128 32 [1] iota_S8x128_d1_w32

/-- The row of each element. -/
def rowV : IVec S8x128 32 := iota .tc S8x128 32 [0] iota_S8x128_d0_w32

/-- The first lane of each row that holds the row's greatest value, spread over the row. -/
def firstV (X : FVec Ideal S8x128 .f32) : IVec S8x128 32 :=
  broadcastTo S8x128 (shapeCast S8x1 (multiReductionI .minsi [1] S8 (select (cmpf .oeq X
    (broadcastTo S8x128 (shapeCast S8x1 (multiReduction .maximumf [1] S8 X 0xFF800000#32 reduces_S8x128_S8 (.inl rfl) rfl) shapeCasts_S8_S8x1) broadcasts_S8x1_S8x128))
    laneV (broadcast S8x128 10000#32)) 2147483647#32 reduces_S8x128_S8 rfl) shapeCasts_S8_S8x1) broadcasts_S8x1_S8x128

/-- Whether an element is the first of its row to hold the row's greatest value. -/
def pickV (X : FVec Ideal S8x128 .f32) : IVec S8x128 1 := cmpi .eq laneV (firstV X)

/-- The scores with each row's picked lane taken out. -/
def maskV (X : FVec Ideal S8x128 .f32) : FVec Ideal S8x128 .f32 :=
  select (pickV X) (broadcast S8x128 (Scalar.ofBits .f32 0xFF800000#32)) X

/-- The marks with each row's picked lane marked. -/
def markV (X : FVec Ideal S8x128 .f32) (m : IVec S8x128 32) : IVec S8x128 32 := select (pickV X) (broadcast S8x128 1#32) m

/-- After `r` rounds: the mark of the lanes picked so far, and the scores with those lanes taken out. -/
def roundV (X : FVec Ideal S8x128 .f32) : ℕ → IVec S8x128 32 × FVec Ideal S8x128 .f32
  | 0 => (broadcast S8x128 0#32, X)
  | r + 1 => (markV (roundV X r).2 (roundV X r).1, maskV (roundV X r).2)

/-- The score of row `h`, lane `n` put in its place. -/
def putV (h n : ℕ) (v : Ideal .f32) (X : FVec Ideal S8x128 .f32) : FVec Ideal S8x128 .f32 :=
  select (andi (cmpi .eq rowV (broadcast S8x128 (BitVec.ofNat 32 h))) (cmpi .eq laneV (broadcast S8x128 (BitVec.ofNat 32 n)))) (broadcast S8x128 v) X

/-- The first `k` scores of row `h` put in their places. -/
def putRow (h : ℕ) (s : Fin 16 → Ideal .f32) : (k : ℕ) → k ≤ 16 → FVec Ideal S8x128 .f32 → FVec Ideal S8x128 .f32
  | 0, _, X => X
  | k + 1, hk, X => putV h k (s ⟨k, hk⟩) (putRow h s k (Nat.le_of_succ_le hk) X)

/-- The array of the scores: row `h`, lane `n` for the four heads and sixteen blocks, the least value elsewhere. -/
def scoresV (s : Fin 4 → Fin 16 → Ideal .f32) : FVec Ideal S8x128 .f32 :=
  putRow 3 (s 3) 16 le_rfl (putRow 2 (s 2) 16 le_rfl (putRow 1 (s 1) 16 le_rfl (putRow 0 (s 0) 16 le_rfl
    (broadcast S8x128 (Scalar.ofBits .f32 0xFF800000#32)))))

/-- The array of the first sixty-three scores as the program's own text makes it. -/
def scoresP (s : Fin 4 → Fin 16 → Ideal .f32) : FVec Ideal S8x128 .f32 :=
  let v1902 : FVec Ideal S8x128 .f32 := k0_pay161 (s 0 0) (s 0 1) (s 0 2)
  let v1904 : IVec S8x128 1 := k0_pay162
  let v1906 : IVec S8x128 1 := k0_pay163
  let v1951 : FVec Ideal S8x128 .f32 := k0_pay164 (s 0 3) (s 0 4) (s 0 5) (s 0 6) (s 0 7) (s 0 8) (s 0 9) laneV rowV v1902 v1904 v1906
  let v1953 : IVec S8x128 1 := k0_pay165 rowV
  let v2000 : FVec Ideal S8x128 .f32 := k0_pay166 (s 0 10) (s 0 11) (s 0 12) (s 0 13) (s 0 14) (s 0 15) (s 1 0) laneV rowV v1951 v1953
  let v2042 : FVec Ideal S8x128 .f32 := k0_pay167 (s 1 1) (s 1 2) (s 1 3) (s 1 4) (s 1 5) (s 1 6) laneV rowV v2000
  let v2044 : IVec S8x128 1 := k0_pay168 rowV
  let v2046 : IVec S8x128 1 := k0_pay169 laneV
  let v2091 : FVec Ideal S8x128 .f32 := k0_pay170 (s 1 7) (s 1 8) (s 1 9) (s 1 10) (s 1 11) (s 1 12) (s 1 13) laneV rowV v2042 v2044 v2046
  let v2093 : IVec S8x128 1 := k0_pay171 rowV
  let v2140 : FVec Ideal S8x128 .f32 := k0_pay172 (s 1 14) (s 1 15) (s 2 0) (s 2 1) (s 2 2) (s 2 3) (s 2 4) laneV rowV v2091 v2093
  let v2182 : FVec Ideal S8x128 .f32 := k0_pay173 (s 2 5) (s 2 6) (s 2 7) (s 2 8) (s 2 9) (s 2 10) laneV rowV v2140
  let v2184 : IVec S8x128 1 := k0_pay174 rowV
  let v2186 : IVec S8x128 1 := k0_pay175 laneV
  let v2231 : FVec Ideal S8x128 .f32 := k0_pay176 (s 2 11) (s 2 12) (s 2 13) (s 2 14) (s 2 15) (s 3 0) (s 3 1) laneV rowV v2182 v2184 v2186
  let v2233 : IVec S8x128 1 := k0_pay177 rowV
  let v2280 : FVec Ideal S8x128 .f32 := k0_pay178 (s 3 2) (s 3 3) (s 3 4) (s 3 5) (s 3 6) (s 3 7) (s 3 8) laneV rowV v2231 v2233
  let v2322 : FVec Ideal S8x128 .f32 := k0_pay179 (s 3 9) (s 3 10) (s 3 11) (s 3 12) (s 3 13) (s 3 14) laneV rowV v2280
  v2322

/-- The gate as the program's own text makes it of the last score, the others' array and the place of the last one. -/
def tailP (a : Ideal .f32) (Y : FVec Ideal S8x128 .f32) (p q : IVec S8x128 1) : FVec Ideal S8x2048 .f32 :=
  let v2358 : FVec Ideal S8x128 .f32 := k0_pay186 a laneV Y p q
  let v2368 : IVec S8x128 1 := k0_pay187 a laneV Y p q
  let v2370 : IVec S8x128 32 := k0_pay188 a laneV Y p q
  let v2412 : IVec S8x128 32 := k0_pay195 laneV v2358 v2368 v2370 (Scalar.ofBits .f32 0xFF800000#32)
  let v2414 : FVec Ideal S8x128 .f32 := k0_pay196 laneV v2358 v2368 (Scalar.ofBits .f32 0xFF800000#32)
  k0_pay4 laneV v2412 (k0_pay197 laneV v2414)

/-- The array of the scores. -/
theorem scoresP_eq (s : Fin 4 → Fin 16 → Ideal .f32) : k0_pay182 (s 3 15) (scoresP s) (k0_pay180 rowV) (k0_pay181 laneV) = scoresV s := by
  unfold scoresP scoresV
  unfold_payloads
  simp only [putRow, putV]
  rfl

/-- The gate is seven rounds over that array. -/
theorem tailP_eq (a : Ideal .f32) (Y : FVec Ideal S8x128 .f32) (p q : IVec S8x128 1) :
    tailP a Y p q = k0_pay4 laneV (roundV (k0_pay182 a Y p q) 6).1 (firstV (roundV (k0_pay182 a Y p q) 6).2) := by
  have h184 : k0_pay184 a laneV Y p q = maskV (k0_pay182 a Y p q) := rfl
  have h186 : k0_pay186 a laneV Y p q = maskV (maskV (k0_pay182 a Y p q)) := by
    rw [← h184]; rfl
  have h187 : k0_pay187 a laneV Y p q = pickV (maskV (maskV (k0_pay182 a Y p q))) := by
    rw [← h186]; rfl
  have h188 : k0_pay188 a laneV Y p q = markV (maskV (maskV (k0_pay182 a Y p q))) (markV (maskV (k0_pay182 a Y p q)) (markV (k0_pay182 a Y p q) (broadcast S8x128 0#32))) := by
    unfold k0_pay188
    rw [h187, ← h184]
    rfl
  unfold tailP
  dsimp only
  rw [h186, h187, h188]
  generalize k0_pay182 a Y p q = X
  simp only [roundV]
  generalize markV (maskV (maskV X)) (markV (maskV X) (markV X (broadcast S8x128 0#32))) = m
  generalize maskV (maskV X) = Z
  have h191 : k0_pay191 laneV Z (pickV Z) (Scalar.ofBits .f32 0xFF800000#32) = maskV (maskV Z) := rfl
  have h193 : k0_pay193 laneV Z (pickV Z) (Scalar.ofBits .f32 0xFF800000#32) = maskV (maskV (maskV Z)) := by
    rw [← h191]; rfl
  have h196 : k0_pay196 laneV Z (pickV Z) (Scalar.ofBits .f32 0xFF800000#32) = maskV (maskV (maskV (maskV Z))) := by
    rw [← h193]; rfl
  have h195 : k0_pay195 laneV Z (pickV Z) m (Scalar.ofBits .f32 0xFF800000#32) = markV (maskV (maskV (maskV Z))) (markV (maskV (maskV Z)) (markV (maskV Z) m)) := by
    rw [← h193, ← h191]
    rfl
  rw [h195, h196]
  rfl

/-- One head's mean query: the mean of its four queries' means. -/
def qoV (v226 : FVec Ideal S1x2048 .f32) : Fin 4 → FVec Ideal S1x128 .f32
  | 0 => let X (o : ℕ) (h : S1x2048.Slices ![0, o] S1x128) := extractStridedSlice S1x128 ![0, o] v226 h
      extf .f32 (truncf .bf16 (divf (addf (addf (addf (addf (broadcast S1x128 (Scalar.ofBits .f32 0x00000000#32)) (X 0 slices_S1x2048_o0_0_S1x128)) (X 128 slices_S1x2048_o0_128_S1x128)) (X 256 slices_S1x2048_o0_256_S1x128)) (X 384 slices_S1x2048_o0_384_S1x128)) (broadcast S1x128 (Scalar.ofBits .f32 0x40800000#32))) bitsLt_bf16_f32) bitsLt_bf16_f32
  | 1 => k0_pay46 v226
  | 2 => k0_pay84 v226
  | 3 => k0_pay122 v226

/-- The keys of block `n` of head `h`. -/
def kTile (h : Fin 4) (n : Fin 16) : Rect S2048x512 :=
  Rect.unit (s := S2048x512) ![128 * n.val, 128 * h.val] S128x128.size (by intro a; fin_cases a <;> simp <;> omega)

/-- The score of one block of one head. -/
def scoreV (qo : FVec Ideal S1x128 .f32) (kb : Vec Ideal S128x128 .f32) : Ideal .f32 := k0_pay9 qo (k0_pay8 kb)

/-- The gate of the queries and the keys. -/
theorem gateOut_eq (q : FVec Ideal S512x2048 .f32) (kc : Vec Ideal S2048x512 .f32) :
    gateOut q kc = tailP (scoreV (qoV (k0_pay5 q) 3) (View.ld kc (kTile 3 15)))
      (scoresP fun h n => scoreV (qoV (k0_pay5 q) h) (View.ld kc (kTile h n))) (k0_pay180 rowV) (k0_pay181 laneV) := by
  unfold gateOut gateIdx tailP scoresP
  rfl

end Cert.Proof.Val
-- ==== Proof.Val.Rounds.lean ====
/-
The rounds of the gate: each takes the first lane that holds the row's greatest remaining score, so after `r` of them the lanes
taken are `r` lanes each ahead of every lane left.
-/
module

public import proofs.«01_k».proof.Proof.Val.Sel
public import Idealize.ShloMosaic.Lib.SortNet.Extract

@[expose] public section

set_option maxRecDepth 16384

noncomputable section

namespace Cert.Proof.Val

open Cert.KernelIdeal Cert.KernelIdeal.Gen Cert.Proof.KI
open Idealize.ShloMosaic

/-- The word of minus infinity is the least extended real. -/
theorem ninf : Ideal.ofBits .f32 0xFF800000#32 = ⊥ := by
  simp [Ideal.ofBits, Ideal.ieee]

/-- Index `i` comes ahead of index `j`: its score is greater, or the same and it stands earlier. -/
def Ahead {n : ℕ} (s : Fin n → EReal) (i j : Fin n) : Prop := s j < s i ∨ s j = s i ∧ i < j

/-- `S` is the set of the `r` indices that come ahead of all others. -/
def Top {n : ℕ} (s : Fin n → EReal) (r : ℕ) (S : Finset (Fin n)) : Prop := S.card = r ∧ ∀ i ∈ S, ∀ j ∉ S, Ahead s i j

/-- Two indices are not each ahead of the other. -/
theorem Ahead.asymm {n : ℕ} {s : Fin n → EReal} {i j : Fin n} (h : Ahead s i j) (h' : Ahead s j i) : False := by
  rcases h with h | ⟨h, h1⟩ <;> rcases h' with h' | ⟨h', h1'⟩
  · exact lt_asymm h h'
  · exact absurd h (by rw [h']; exact lt_irrefl _)
  · exact absurd h' (by rw [h]; exact lt_irrefl _)
  · exact lt_asymm h1 h1'

/-- There is one such set at most. -/
theorem Top.unique {n : ℕ} {s : Fin n → EReal} {r : ℕ} {S T : Finset (Fin n)} (hS : Top s r S) (hT : Top s r T) : S = T := by
  by_contra hne
  have h1 : ¬ S ⊆ T := fun h => hne (Finset.eq_of_subset_of_card_le h (by rw [hS.1, hT.1]))
  have h2 : ¬ T ⊆ S := fun h => hne (Finset.eq_of_subset_of_card_le h (by rw [hS.1, hT.1])).symm
  obtain ⟨i, hi, hi'⟩ := Finset.not_subset.mp h1
  obtain ⟨j, hj, hj'⟩ := Finset.not_subset.mp h2
  exact (hS.2 i hi j hj').asymm (hT.2 j hj i hi')

/-- A signed minimum over the lanes is the least word met, where one is. -/
theorem fold_minsi (f : Fin 128 → BitVec 32) (b : BitVec 32) (n : Fin 128) (hb : (f n).toInt ≤ b.toInt) (h : ∀ k, (f n).toInt ≤ (f k).toInt) :
    Finset.univ.fold IntOp.minsi b f = f n := by
  apply BitVec.eq_of_toInt_eq
  refine (Finset.fold_hom (op := IntOp.minsi) (op' := min) (m := BitVec.toInt) SortNet.toInt_minsi).symm.trans ?_
  apply le_antisymm
  · exact (Finset.fold_min_le _).mpr (Or.inr ⟨n, Finset.mem_univ _, le_rfl⟩)
  · exact (Finset.le_fold_min _).mpr ⟨hb, fun k _ => h k⟩

/-- A small natural number's word is that number. -/
theorem lane_toInt : ∀ k : Fin 128, (BitVec.ofNat 32 k.val).toInt = (k.val : ℤ) := by decide +kernel

/-- The pick of a row whose first greatest lane is `n`. -/
theorem firstV_eq (X : FVec Ideal S8x128 .f32) (h : Fin 8) (n : Fin 128) (hmax : ∀ k, X (ix2 h k) ≤ X (ix2 h n))
    (hfirst : ∀ k, X (ix2 h k) = X (ix2 h n) → n ≤ k) (k : Fin 128) : firstV X (ix2 h k) = BitVec.ofNat 32 n.val := by
  have e : firstV X (ix2 h k) = Finset.univ.fold IntOp.minsi 2147483647#32 fun x : Fin 128 =>
      if X (ix2 h x) = Finset.univ.fold max (Ideal.ofBits FTy.f32 0xFF800000#32) (fun x : Fin 128 => X (ix2 h x)) then BitVec.ofNat 32 x.val else 10000#32 := by
    pointwise [firstV, laneV]
  have hm : Finset.univ.fold max (Ideal.ofBits FTy.f32 0xFF800000#32) (fun x : Fin 128 => X (ix2 h x)) = X (ix2 h n) := by
    apply le_antisymm
    · exact (Finset.fold_max_le _).mpr ⟨by rw [ninf]; exact bot_le, fun k _ => hmax k⟩
    · exact (Finset.le_fold_max _).mpr (Or.inr ⟨n, Finset.mem_univ _, le_rfl⟩)
  rw [e]
  simp only [hm]
  have hn := n.isLt
  have e1 : (if X (ix2 h n) = X (ix2 h n) then BitVec.ofNat 32 n.val else 10000#32) = BitVec.ofNat 32 n.val := if_pos rfl
  refine (fold_minsi _ _ n ?_ fun k => ?_).trans e1
  · simp only [if_true, lane_toInt]
    have : (2147483647#32 : BitVec 32).toInt = 2147483647 := by decide
    rw [this]; omega
  · simp only [if_true, lane_toInt]
    split
    · rename_i hk
      rw [lane_toInt]
      exact_mod_cast hfirst k hk
    · have : (10000#32 : BitVec 32).toInt = 10000 := by decide
      rw [this]; omega

/-- Two lanes' words are the same where the lanes are. -/
theorem lane_eq : ∀ k n : Fin 128, IntOp.cmpi .eq (BitVec.ofNat 32 k.val) (BitVec.ofNat 32 n.val) = if k = n then 1#1 else 0#1 := by decide +kernel

/-- An element's lane. -/
theorem laneV_apply (h : Fin 8) (k : Fin 128) : laneV (ix2 h k) = BitVec.ofNat 32 k.val := by
  pointwise [laneV]

/-- The pick's mark. -/
theorem pickV_eq (X : FVec Ideal S8x128 .f32) (h : Fin 8) (n : Fin 128) (hmax : ∀ k, X (ix2 h k) ≤ X (ix2 h n))
    (hfirst : ∀ k, X (ix2 h k) = X (ix2 h n) → n ≤ k) (k : Fin 128) : pickV X (ix2 h k) = if k = n then 1#1 else 0#1 := by
  show IntOp.cmpi .eq (laneV (ix2 h k)) (firstV X (ix2 h k)) = _
  rw [firstV_eq X h n hmax hfirst k, laneV_apply, lane_eq]

/-- A nonempty row has a first greatest lane. -/
theorem exists_first (m : Fin 128 → EReal) : ∃ n, (∀ k, m k ≤ m n) ∧ ∀ k, m k = m n → n ≤ k := by
  obtain ⟨a, -, ha⟩ := Finset.exists_max_image Finset.univ m ⟨0, Finset.mem_univ _⟩
  let T := Finset.univ.filter fun k => m k = m a
  have hT : T.Nonempty := ⟨a, by simp [T]⟩
  refine ⟨T.min' hT, ?_, ?_⟩
  · have := T.min'_mem hT
    have h : m (T.min' hT) = m a := (Finset.mem_filter.mp this).2
    intro k; rw [h]; exact ha k (Finset.mem_univ _)
  · have := T.min'_mem hT
    have h : m (T.min' hT) = m a := (Finset.mem_filter.mp this).2
    intro k hk
    exact T.min'_le k (Finset.mem_filter.mpr ⟨Finset.mem_univ _, hk.trans h⟩)

/-- What the rounds keep: the taken lanes are marked and out of the scores, and come ahead of the others. -/
theorem round_inv (X : FVec Ideal S8x128 .f32) (h : Fin 8) (hX : ∀ S : Finset (Fin 128), S.card < 7 → ∃ n ∉ S, ⊥ < X (ix2 h n)) (r : ℕ) (hr : r ≤ 7) :
    ∃ S : Finset (Fin 128), Top (fun n => X (ix2 h n)) r S ∧ (∀ n, (roundV X r).2 (ix2 h n) = if n ∈ S then ⊥ else X (ix2 h n)) ∧
      ∀ n, (roundV X r).1 (ix2 h n) = if n ∈ S then 1#32 else 0#32 := by
  induction r with
  | zero => exact ⟨∅, ⟨rfl, fun i hi => absurd hi (Finset.notMem_empty _)⟩, fun n => rfl, fun n => rfl⟩
  | succ r ih =>
    obtain ⟨S, hS, hm, hs⟩ := ih (by omega)
    obtain ⟨n, hmax, hfirst⟩ := exists_first fun k => (roundV X r).2 (ix2 h k)
    have hp := pickV_eq (roundV X r).2 h n hmax hfirst
    obtain ⟨b, hb, hbX⟩ := hX S (by rw [hS.1]; omega)
    have hn : n ∉ S := by
      intro hn
      have h1 := hmax b
      simp only [hm, if_pos hn, if_neg hb] at h1
      exact absurd hbX (not_lt.mpr h1)
    refine ⟨insert n S, ⟨by rw [Finset.card_insert_of_notMem hn, hS.1], fun i hi j hj => ?_⟩, fun k => ?_, fun k => ?_⟩
    · have hj' : j ∉ S := fun h => hj (Finset.mem_insert_of_mem h)
      have hjn : j ≠ n := fun h => hj (h ▸ Finset.mem_insert_self _ _)
      rcases Finset.mem_insert.mp hi with rfl | hi
      · have h1 := hmax j
        have h2 := hfirst j
        simp only [hm, if_neg hn, if_neg hj'] at h1 h2
        rcases lt_or_eq_of_le h1 with h3 | h3
        · exact Or.inl h3
        · exact Or.inr ⟨h3, lt_of_le_of_ne (h2 h3) (Ne.symm hjn)⟩
      · exact hS.2 i hi j hj'
    · show (if pickV (roundV X r).2 (ix2 h k) = 1#1 then Ideal.ofBits FTy.f32 0xFF800000#32 else (roundV X r).2 (ix2 h k)) = _
      rw [hp, hm, ninf]
      by_cases e : k = n
      · simp [e]
      · simp [e]
    · show (if pickV (roundV X r).2 (ix2 h k) = 1#1 then 1#32 else (roundV X r).1 (ix2 h k)) = _
      rw [hp, hs]
      by_cases e : k = n
      · simp [e]
      · simp [e]

/-- The block number of a column, as its word is made. -/
def colBlk (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 128#32 0#32)) (Scalar.extui (Scalar.cmpi .slt 128#32 0#32))))
    (IntOp.cmpi .ne (IntOp.remsi .vector w 128#32) 0#32)) (IntOp.subi (IntOp.divsi .vector w 128#32) 1#32) (IntOp.divsi .vector w 128#32)

/-- It is the column's block. -/
theorem colBlk_eq : ∀ c : Fin 2048, colBlk (BitVec.ofNat 32 c.val) = BitVec.ofNat 32 (c.val / 128) := by decide +kernel

/-- The bit of an equality of lanes, as a number. -/
theorem expand_bit (a b : Fin 128) : (FloatOps.sitofp (F := Ideal) FTy.f32 (BitVec.setWidth 32 (IntOp.cmpi .eq (BitVec.ofNat 32 a.val) (BitVec.ofNat 32 b.val))) : EReal) = if a = b then 1 else 0 := by
  rw [lane_eq]
  split
  · show ((((BitVec.setWidth 32 1#1).toInt : ℤ) : ℝ) : EReal) = 1
    rw [show (BitVec.setWidth 32 1#1).toInt = 1 by decide]; simp
  · show ((((BitVec.setWidth 32 0#1).toInt : ℤ) : ℝ) : EReal) = 0
    rw [show (BitVec.setWidth 32 0#1).toInt = 0 by decide]; simp

/-- A mark as a number. -/
theorem mark_num (p : Prop) [Decidable p] : (FloatOps.sitofp (F := Ideal) FTy.f32 (if p then 1#32 else 0#32) : EReal) = if p then 1 else 0 := by
  split
  · show ((((1#32 : BitVec 32).toInt : ℤ) : ℝ) : EReal) = 1
    rw [show (1#32 : BitVec 32).toInt = 1 by decide]; simp
  · show ((((0#32 : BitVec 32).toInt : ℤ) : ℝ) : EReal) = 0
    rw [show (0#32 : BitVec 32).toInt = 0 by decide]; simp

/-- The last step spreads each lane's mark over the lane's block of columns. -/
theorem pay4_apply (X : FVec Ideal S8x128 .f32) (m : IVec S8x128 32) (h : Fin 8) (c : Fin 2048) (S : Finset (Fin 128))
    (hs : ∀ n, markV X m (ix2 h n) = if n ∈ S then 1#32 else 0#32) :
    k0_pay4 (F := Ideal) laneV m (firstV X) (ix2 h c) = if (⟨c.val / 128, by omega⟩ : Fin 128) ∈ S then 1 else 0 := by
  have e : k0_pay4 (F := Ideal) laneV m (firstV X) (ix2 h c) = ∑ x : Fin 128,
      (FloatOps.sitofp (F := Ideal) FTy.f32 (markV X m (ix2 h x)) : EReal) * FloatOps.sitofp (F := Ideal) FTy.f32 (BitVec.setWidth 32 (IntOp.cmpi .eq (colBlk (BitVec.ofNat 32 c.val)) (BitVec.ofNat 32 x.val))) := by
    pointwise [k0_pay4]
    rfl
  rw [e, Finset.sum_eq_single (⟨c.val / 128, by omega⟩ : Fin 128)]
  · rw [colBlk_eq, hs, mark_num]
    have := expand_bit ⟨c.val / 128, by omega⟩ ⟨c.val / 128, by omega⟩
    rw [if_pos rfl] at this
    refine (congrArg _ this).trans (mul_one _)
  · intro b _ hb
    rw [colBlk_eq]
    have := expand_bit ⟨c.val / 128, by omega⟩ b
    rw [if_neg (Ne.symm hb)] at this
    exact (congrArg _ this).trans (mul_zero _)
  · intro h; exact absurd (Finset.mem_univ _) h

/-- The scores' array at an element. -/
theorem putRow_apply (h : ℕ) (hh : h < 4) (s : Fin 16 → Ideal .f32) (X : FVec Ideal S8x128 .f32) (i : Fin 8) (j : Fin 128) (k : ℕ) (hk : k ≤ 16) :
    putRow h s k hk X (ix2 i j) = if e : i.val = h ∧ j.val < k then s ⟨j.val, by omega⟩ else X (ix2 i j) := by
  induction k with
  | zero => simp [putRow]
  | succ k ih =>
    have hbit : (andi (cmpi .eq rowV (broadcast S8x128 (BitVec.ofNat 32 h))) (cmpi .eq laneV (broadcast S8x128 (BitVec.ofNat 32 k)))) (ix2 i j)
        = if i.val = h ∧ j.val = k then 1#1 else 0#1 := by
      have e1 : IntOp.cmpi .eq (BitVec.ofNat 32 i.val) (BitVec.ofNat 32 h) = if i.val = h then 1#1 else 0#1 := by
        have := lane_eq ⟨i.val, by omega⟩ ⟨h, by omega⟩
        simpa [Fin.ext_iff] using this
      have e2 : IntOp.cmpi .eq (BitVec.ofNat 32 j.val) (BitVec.ofNat 32 k) = if j.val = k then 1#1 else 0#1 := by
        have := lane_eq j ⟨k, by omega⟩
        simpa [Fin.ext_iff] using this
      pointwise [rowV, laneV]
      rw [e1, e2]
      by_cases a : i.val = h <;> by_cases b : j.val = k <;> simp [a, b] <;> decide
    show (if _ = 1#1 then s ⟨k, hk⟩ else putRow h s k _ X (ix2 i j)) = _
    rw [hbit, ih]
    by_cases a : i.val = h
    · by_cases b : j.val = k
      · subst b; simp [a]
      · by_cases c : j.val < k
        · simp [a, b, c, Nat.lt_succ_of_lt c]
        · have : ¬ j.val < k + 1 := by omega
          simp [a, b, c, this]
    · simp [a]

/-- The scores' array at an element. -/
theorem scoresV_apply (s : Fin 4 → Fin 16 → Ideal .f32) (h : Fin 4) (j : Fin 128) :
    scoresV s (ix2 ⟨h.val, by omega⟩ j) = if e : j.val < 16 then s h ⟨j.val, e⟩ else ⊥ := by
  have hb : (broadcast S8x128 (Scalar.ofBits (F := Ideal) .f32 0xFF800000#32) : FVec Ideal S8x128 .f32) (ix2 ⟨h.val, by omega⟩ j) = ⊥ := ninf
  unfold scoresV
  simp only [putRow_apply 0 (by decide), putRow_apply 1 (by decide), putRow_apply 2 (by decide), putRow_apply 3 (by decide), hb]
  by_cases c : j.val < 16
  · fin_cases h <;> simp [c]
  · simp [c]

/-- The gate of a row of scores all above minus infinity: 1 on the columns of the seven first blocks, 0 elsewhere. -/
theorem gate_rounds (s : Fin 4 → Fin 16 → Ideal .f32) (h : Fin 4) (hs : ∀ n, (⊥ : EReal) < s h n) (c : Fin 2048) (S : Finset (Fin 16)) (hS : Top (s h) 7 S) :
    k0_pay4 (F := Ideal) laneV (roundV (scoresV s) 6).1 (firstV (roundV (scoresV s) 6).2) (ix2 ⟨h.val, by omega⟩ c)
      = if (⟨c.val / 128, by omega⟩ : Fin 16) ∈ S then (1 : EReal) else 0 := by
  have hX : ∀ T : Finset (Fin 128), T.card < 7 → ∃ n ∉ T, ⊥ < scoresV s (ix2 ⟨h.val, by omega⟩ n) := by
    intro T hT
    have hsub : ¬ (Finset.univ.image fun n : Fin 16 => (⟨n.val, by omega⟩ : Fin 128)) ⊆ T := by
      intro hsub
      have h1 := Finset.card_le_card hsub
      rw [Finset.card_image_of_injective _ (fun (a b : Fin 16) e => Fin.ext (Fin.mk.inj_iff.mp e)), Finset.card_univ, Fintype.card_fin] at h1
      omega
    obtain ⟨n, hn, hn'⟩ := Finset.not_subset.mp hsub
    obtain ⟨a, -, rfl⟩ := Finset.mem_image.mp hn
    refine ⟨_, hn', ?_⟩
    rw [scoresV_apply, dif_pos a.isLt]
    exact hs a
  obtain ⟨T, hT, -, hm⟩ := round_inv (scoresV s) ⟨h.val, by omega⟩ hX 7 le_rfl
  rw [pay4_apply _ _ _ _ T hm]
  have hT' : T = S.image fun n : Fin 16 => (⟨n.val, by omega⟩ : Fin 128) := by
    refine hT.unique ⟨?_, fun i hi j hj => ?_⟩
    · rw [Finset.card_image_of_injective _ (fun (a b : Fin 16) e => Fin.ext (Fin.mk.inj_iff.mp e)), hS.1]
    · obtain ⟨a, ha, rfl⟩ := Finset.mem_image.mp hi
      simp only [Ahead, scoresV_apply]
      rw [dif_pos a.isLt]
      by_cases hj16 : j.val < 16
      · rw [dif_pos hj16]
        have hb : (⟨j.val, hj16⟩ : Fin 16) ∉ S := fun hb => hj (Finset.mem_image.mpr ⟨_, hb, rfl⟩)
        exact hS.2 a ha _ hb
      · rw [dif_neg hj16]
        exact Or.inl (hs a)
  congr 1
  rw [hT', Finset.mem_image]
  apply propext
  constructor
  · rintro ⟨a, ha, e⟩
    have : a = ⟨c.val / 128, by omega⟩ := Fin.ext (Fin.mk.inj_iff.mp e)
    exact this ▸ ha
  · intro ha; exact ⟨_, ha, rfl⟩

end Cert.Proof.Val
-- ==== Proof.Val.Score.lean ====
/-
The gate's scores at an index.
-/
module

public import proofs.«01_k».proof.Proof.Val.Rounds

@[expose] public section

set_option maxRecDepth 16384

noncomputable section

namespace Cert.Proof.Val

open Cert.KernelIdeal Cert.KernelIdeal.Gen Cert.Proof.KI
open Idealize.ShloMosaic

/-- A head's mean query: the mean over the head's four query heads of the mean over the sixteen last rows. -/
def qoOf (Q : Fin 4 → Fin 16 → Fin 128 → EReal) (d : Fin 128) : EReal :=
  Ideal.div (∑ g, Ideal.div (∑ r, Q g r d) (Ideal.ofBits .f32 0x41800000#32)) (Ideal.ofBits .f32 0x40800000#32)

/-- A block's score: half the mean query's product with the block's mean key, and half that with its greatest. -/
def scoreOf (qo : Fin 128 → EReal) (kb : Fin 128 → Fin 128 → EReal) : EReal :=
  Ideal.ofBits .f32 0x3F000000#32 * ∑ d, qo d * Ideal.div (∑ r, kb r d) (Ideal.ofBits .f32 0x43000000#32)
    + Ideal.ofBits .f32 0x3F000000#32 * ∑ d, qo d * Finset.univ.fold max (Ideal.ofBits .f32 0xFF800000#32) fun r => kb r d

/-- The program's score of a block. -/
theorem scoreV_apply (qo : FVec Ideal S1x128 .f32) (kb : Vec Ideal S128x128 .f32) :
    scoreV qo kb = scoreOf (fun d => qo (ix2 0 d)) fun r d => kb (ix2 r d) := by
  pointwise [scoreV, k0_pay9, k0_pay8]
  simp only [scoreOf, Finset.univ_unique, Finset.sum_singleton]

/-- The program's mean query of a head. -/
theorem qoV_apply (q : FVec Ideal S512x2048 .f32) (h : Fin 4) (d : Fin 128) :
    qoV (k0_pay5 q) h (ix2 0 d) = qoOf (fun g r d => q (ix2 ⟨496 + r.val, by omega⟩ ⟨512 * h.val + 128 * g.val + d.val, by omega⟩)) d := by
  fin_cases h
  · pointwise [qoV, k0_pay5]
    simp only [qoOf, Fin.sum_univ_four]
    simp
  · pointwise [qoV, k0_pay5, k0_pay46]
    simp only [qoOf, Fin.sum_univ_four]
    simp
  · pointwise [qoV, k0_pay5, k0_pay84]
    simp only [qoOf, Fin.sum_univ_four]
    simp
  · pointwise [qoV, k0_pay5, k0_pay122]
    simp only [qoOf, Fin.sum_univ_four]
    simp

/-- A block of the keys at an element. -/
theorem kTile_apply (kc : Vec Ideal S2048x512 .f32) (h : Fin 4) (n : Fin 16) (r d : Fin 128) :
    View.ld kc (kTile h n) (ix2 r d) = kc (ix2 ⟨128 * n.val + r.val, by omega⟩ ⟨128 * h.val + d.val, by omega⟩) := by
  pointwise [kTile]

/-- The scores the gate chooses by, of the last rows' queries and the keys. -/
def gateScore (q : FVec Ideal S512x2048 .f32) (kc : Vec Ideal S2048x512 .f32) (h : Fin 4) (n : Fin 16) : EReal :=
  scoreOf (qoOf fun g r d => q (ix2 ⟨496 + r.val, by omega⟩ ⟨512 * h.val + 128 * g.val + d.val, by omega⟩))
    fun r d => kc (ix2 ⟨128 * n.val + r.val, by omega⟩ ⟨128 * h.val + d.val, by omega⟩)

/-- The gate at an element. -/
theorem gateOut_apply (q : FVec Ideal S512x2048 .f32) (kc : Vec Ideal S2048x512 .f32) (h : Fin 4) (hs : ∀ n, (⊥ : EReal) < gateScore q kc h n)
    (S : Finset (Fin 16)) (hS : Top (gateScore q kc h) 7 S) (c : Fin 2048) :
    gateOut q kc (ix2 ⟨h.val, by omega⟩ c) = if (⟨c.val / 128, by omega⟩ : Fin 16) ∈ S then (1 : EReal) else 0 := by
  have e (h n) : scoreV (qoV (k0_pay5 q) h) (View.ld kc (kTile h n)) = gateScore q kc h n := by
    exact (scoreV_apply _ _).trans (congrArg₂ scoreOf (funext fun d => qoV_apply q h d) (funext fun r => funext fun d => kTile_apply kc h n r d))
  rw [gateOut_eq, tailP_eq]
  rw [scoresP_eq fun h n => scoreV (qoV (k0_pay5 q) h) (View.ld kc (kTile h n))]
  simp only [e]
  exact gate_rounds (gateScore q kc) h hs c S hS

end Cert.Proof.Val
-- ==== Proof.Val.Proj.lean ====
/-
What one row block of the projection call writes as queries, keys and values: a linear layer, and for queries and keys the
rotation, each read at an index.
-/
module

public import proofs.«01_k».proof.Proof.Val.Score
public import Idealize.ShloMosaic.Lib.MatmulPlain

@[expose] public section

set_option maxRecDepth 16384

namespace Cert.Proof.Val

open Idealize.ShloMosaic Cert.KernelIdeal Cert.KernelIdeal.Gen Cert.Proof.KI
open scoped BigOperators

/-- A linear layer at one row and one column. -/
noncomputable def linAt (x w : Fin 2048 → EReal) (b : EReal) : EReal := (∑ j, x j * w j) + b

/-- The rotation of one head's row by its cosines and sines. -/
noncomputable def ropeAt (x c s : Fin 128 → EReal) (d : Fin 128) : EReal :=
  x d * c d + (if h : d.val < 64 then 0 - x ⟨64 + d.val, by omega⟩ else x ⟨d.val - 64, by omega⟩) * s d

/-- The rotation depends on its three rows only. -/
theorem ropeAt_congr {x x' c c' s s' : Fin 128 → EReal} (d : Fin 128) (hx : x = x') (hc : c = c') (hs : s = s') :
    ropeAt x c s d = ropeAt x' c' s' d := by rw [hx, hc, hs]

/-- One head's rotated block of a linear layer's rows. -/
noncomputable def ropeP (x : FVec Ideal S512x128 .f32) (c s : FVec Ideal S512x128 .f32) : FVec Ideal S512x128 .f32 :=
  addf (mulf x c) (mulf (concatenate S512x128 1
    [⟨S512x64, subf (broadcast S512x64 (Scalar.ofBits (F := Ideal) .f32 0x00000000#32))
      (extractStridedSlice S512x64 ![0, 64] x slices_S512x128_o0_64_S512x64)⟩,
     ⟨S512x64, extractStridedSlice S512x64 ![0, 0] x slices_S512x128_o0_0_S512x64⟩]
    concatenates_S512x64_S512x64_S512x128_d1) s)

/-- The rotated block at an index. -/
theorem ropeP_apply (x c s : FVec Ideal S512x128 .f32) (r : Fin 512) (d : Fin 128) :
    ropeP x c s (ix2 r d) = ropeAt (fun e => x (ix2 r e)) (fun e => c (ix2 r e)) (fun e => s (ix2 r e)) d := by
  pointwise [ropeP, ropeAt, Ideal.ofBits_zero_f32]

/-- Sixteen head blocks side by side. -/
noncomputable def catQ (p : Fin 16 → FVec Ideal S512x128 .f32) : FVec Ideal S512x2048 .f32 :=
  concatenate S512x2048 1 [⟨S512x128, p 0⟩, ⟨S512x128, p 1⟩, ⟨S512x128, p 2⟩, ⟨S512x128, p 3⟩, ⟨S512x128, p 4⟩,
    ⟨S512x128, p 5⟩, ⟨S512x128, p 6⟩, ⟨S512x128, p 7⟩, ⟨S512x128, p 8⟩, ⟨S512x128, p 9⟩, ⟨S512x128, p 10⟩,
    ⟨S512x128, p 11⟩, ⟨S512x128, p 12⟩, ⟨S512x128, p 13⟩, ⟨S512x128, p 14⟩, ⟨S512x128, p 15⟩]
    concatenates_S512x128_S512x128_S512x128_S512x128_S512x128_S512x128_S512x128_S512x128_S512x128_S512x128_S512x128_S512x128_S512x128_S512x128_S512x128_S512x128_S512x2048_d1

/-- Blocks of 128 columns side by side, read in the block a column falls in. -/
theorem catAt (j : S512x2048.Idx) : ∀ (fs : List (FVec Ideal S512x128 .f32))
    (hs : ∀ s ∈ (fs.map fun f => (⟨S512x128, f⟩ : (s : Shape) × (s.Idx → EReal))).map (·.1), s.FitsOff S512x2048 1) (c : Nat)
    (hc : c < (axisSizes S512x2048 1 (fs.map fun f => (⟨S512x128, f⟩ : (s : Shape) × (s.Idx → EReal)))).sum)
    (k : Nat) (hk : k < fs.length) (d : Fin 128) (e : c = 128 * k + d.val),
    concatenateAt S512x2048 1 j (fs.map fun f => (⟨S512x128, f⟩ : (s : Shape) × (s.Idx → EReal))) hs c hc
      = fs[k] (ix2 (j 0) d)
  | [], _, _, hc, _, _, _, _ => absurd hc (Nat.not_lt_zero _)
  | [f], hs, c, hc, k, hk, d, e => by
    have k0 : k = 0 := by simpa using hk
    subst k0
    have ec : c = d.val := by omega
    subst ec
    refine (concatenateAt_singleton (1 : Fin S512x2048.rank) j f hs d.val hc).trans (congrArg f (funext fun b => Fin.ext ?_))
    rw [Shape.Idx.norm_def]
    fin_cases b <;> rfl
  | f :: f' :: fs, hs, c, hc, k, hk, d, e => by
    refine (concatenateAt_cons (1 : Fin S512x2048.rank) j f ⟨S512x128, f'⟩ (fs.map fun f => (⟨S512x128, f⟩ : (s : Shape) × (s.Idx → EReal))) hs c hc).trans ?_
    rcases k with _ | k
    · have ec : c = d.val := by omega
      subst ec
      refine (dif_pos (show d.val < S512x128.size 1 from d.isLt)).trans ?_
      refine congrArg f (funext fun b => Fin.ext ?_)
      rw [Shape.Idx.norm_def]
      fin_cases b <;> rfl
    · refine (dif_neg (show ¬ c < S512x128.size 1 from show ¬ c < 128 by omega)).trans ?_
      exact catAt j (f' :: fs) _ (c - 128) _ k (by simpa using hk) d (by omega)

/-- Sixteen head blocks at an index of block `h`. -/
theorem catQ_apply (p : Fin 16 → FVec Ideal S512x128 .f32) (r : Fin 512) (h : Fin 16) (d : Fin 128) :
    catQ p (ix2 r ⟨128 * h.val + d.val, by omega⟩) = p h (ix2 r d) := by
  refine (concatenate_cons_apply S512x2048 1 ⟨S512x128, p 0⟩ ⟨S512x128, p 1⟩ _ _ _).trans ?_
  refine (catAt (ix2 r ⟨128 * h.val + d.val, by omega⟩) [p 0, p 1, p 2, p 3, p 4, p 5, p 6, p 7, p 8, p 9, p 10, p 11,
    p 12, p 13, p 14, p 15] _ _ _ h.val h.isLt d rfl).trans ?_
  fin_cases h <;> rfl

/-- The slice of head `h` lies in the query rows. -/
theorem slice_ok (h : Fin 16) : S512x2048.Slices ![0, 128 * h.val] S512x128 := by
  revert h; decide

/-- The query rows are sixteen rotated slices of the linear layer. -/
theorem qOut_eq (x0 : Vec Ideal S512x2048 .f32) (x1 : Vec Ideal S2048x2048 .f32) (x4 : Vec Ideal S1x2048 .f32)
    (x7 x8 : Vec Ideal S512x128 .f32) :
    qOut x0 x1 x4 x7 x8 = catQ fun h => ropeP
      (extractStridedSlice S512x128 ![0, 128 * h.val] (k0_pay201 (F := Ideal)
        (View.ld x0 (Rect.unit (s := S512x2048) ![0, 0] S512x2048.size inb_S512x2048_S512x2048_0_0))
        (View.ld x1 (Rect.unit (s := S2048x2048) ![0, 0] S2048x2048.size inb_S2048x2048_S2048x2048_0_0))
        (View.ld x4 (Rect.unit (s := S1x2048) ![0, 0] S1x2048.size inb_S1x2048_S1x2048_0_0))) (slice_ok h))
      (cosOf x7) (sinOf x8) := by
  unfold qOut cosOf sinOf catQ k0_pay217 k0_pay204
  rfl

set_option maxHeartbeats 1000000 in
/-- The query rows at an index. -/
theorem qOut_apply (x0 : Vec Ideal S512x2048 .f32) (x1 : Vec Ideal S2048x2048 .f32) (x4 : Vec Ideal S1x2048 .f32)
    (x7 x8 : Vec Ideal S512x128 .f32) (r : Fin 512) (h : Fin 16) (d : Fin 128) :
    qOut x0 x1 x4 x7 x8 (ix2 r ⟨128 * h.val + d.val, by omega⟩) = ropeAt
      (fun e => linAt (fun j => x0 (ix2 r j)) (fun j => x1 (ix2 j ⟨128 * h.val + e.val, by omega⟩))
        (x4 (ix2 0 ⟨128 * h.val + e.val, by omega⟩)))
      (fun e => x7 (ix2 r e)) (fun e => x8 (ix2 r e)) d := by
  rw [qOut_eq, catQ_apply, ropeP_apply]
  refine ropeAt_congr d (funext fun e => ?_) (funext fun e => ?_) (funext fun e => ?_)
  · unfold linAt; unfold_payloads; pointwise
  · unfold cosOf; unfold_payloads; pointwise
  · unfold sinOf; unfold_payloads; pointwise

/-- A linear layer's rows of keys before the rotation, at an index. -/
theorem kLin_apply (x0 : Vec Ideal S512x2048 .f32) (x2 : Vec Ideal S2048x512 .f32) (x5 : Vec Ideal S1x512 .f32)
    (r : Fin 512) (C : Fin 512) :
    kLin x0 x2 x5 (ix2 r C) = linAt (fun j => x0 (ix2 r j)) (fun j => x2 (ix2 j C)) (x5 (ix2 0 C)) := by
  unfold kLin linAt; unfold_payloads; pointwise

/-- The value rows at an index. -/
theorem vOut_apply (x0 : Vec Ideal S512x2048 .f32) (x3 : Vec Ideal S2048x512 .f32) (x6 : Vec Ideal S1x512 .f32)
    (r : Fin 512) (C : Fin 512) :
    vOut x0 x3 x6 (ix2 r C) = linAt (fun j => x0 (ix2 r j)) (fun j => x3 (ix2 j C)) (x6 (ix2 0 C)) := by
  unfold vOut linAt; unfold_payloads; pointwise

/-- The slice of key head `h` lies in the key rows. -/
theorem sliceK_ok (h : Fin 4) : S512x512.Slices ![0, 128 * h.val] S512x128 := by
  revert h; decide

/-- The key slices are rotated slices of the linear layer. -/
theorem kPiece_eq (x0 : Vec Ideal S512x2048 .f32) (x2 : Vec Ideal S2048x512 .f32) (x5 : Vec Ideal S1x512 .f32)
    (x7 x8 : Vec Ideal S512x128 .f32) (h : Fin 4) :
    kPiece x0 x2 x5 x7 x8 h = ropeP (extractStridedSlice S512x128 ![0, 128 * h.val] (kLin x0 x2 x5) (sliceK_ok h))
      (cosOf x7) (sinOf x8) := by
  fin_cases h <;> rfl

/-- The key slices at an index. -/
theorem kPiece_apply (x0 : Vec Ideal S512x2048 .f32) (x2 : Vec Ideal S2048x512 .f32) (x5 : Vec Ideal S1x512 .f32)
    (x7 x8 : Vec Ideal S512x128 .f32) (h : Fin 4) (r : Fin 512) (d : Fin 128) :
    kPiece x0 x2 x5 x7 x8 h (ix2 r d) = ropeAt
      (fun e => linAt (fun j => x0 (ix2 r j)) (fun j => x2 (ix2 j ⟨128 * h.val + e.val, by omega⟩))
        (x5 (ix2 0 ⟨128 * h.val + e.val, by omega⟩)))
      (fun e => x7 (ix2 r e)) (fun e => x8 (ix2 r e)) d := by
  rw [kPiece_eq, ropeP_apply]
  refine ropeAt_congr d (funext fun e => ?_) (funext fun e => ?_) (funext fun e => ?_)
  · rw [← kLin_apply]; pointwise
  · unfold cosOf; unfold_payloads; pointwise
  · unfold sinOf; unfold_payloads; pointwise

end Cert.Proof.Val
-- ==== Proof.Val.AttnBlk.lean ====
/-
The attention call's arithmetic on one block of 128 query rows, for any number of keys: its definitions and their values at an index.
-/
module

public import proofs.«01_k».proof.Proof.Gen.KernelIdeal.Skeleton
public import Idealize.ShloMosaic.Lib.Pointwise
public import Idealize.ShloMosaic.Lib.Pointwise.IndexVar
public import Idealize.ShloMosaic.Lib.Pointwise.IndexBridge
public import Idealize.ShloMosaic.Lib.MatmulPlain

@[expose] public section

set_option maxRecDepth 16384

noncomputable section

namespace Cert.Proof.Val

open Cert.KernelIdeal Cert.KernelIdeal.Gen
open Idealize.ShloMosaic

/-- The scale by which a query is multiplied before its products with the keys. -/
abbrev scl : EReal := Ideal.ofBits .f32 0x3DB504F3#32

/-- The scaled queries of one block. -/
def bQ (q : FVec Ideal S128x128 .f32) : FVec Ideal S128x128 .f32 :=
  mulf (shapeCast S128x128 q shapeCasts_S128x128_S128x128) (broadcast S128x128 (Scalar.ofBits .f32 0x3DB504F3#32))

/-- The exponentials of the block's scores against `N` keys. -/
def bE (N : ℕ) (q : FVec Ideal S128x128 .f32) (k : FVec Ideal ⟨2, ![N, 128]⟩ .f32) : FVec Ideal ⟨2, ![128, N]⟩ .f32 :=
  exp (matmul (DotDims.transposedRhs 128 128 N) none (bQ q) k (constant ⟨2, ![128, N]⟩ .f32 0x00000000#32))

/-- Row sums over `N` columns: the shape of the fact. -/
theorem red (N : ℕ) : Shape.Reduces ⟨2, ![128, N]⟩ [1] S128 :=
  ⟨rfl, by decide, fun b => by match b with | ⟨0, _⟩ => rfl⟩

/-- The weighted mean of the values, from the weighted exponentials. -/
def bO (N : ℕ) (p : FVec Ideal ⟨2, ![128, N]⟩ .f32) (v : FVec Ideal ⟨2, ![N, 128]⟩ .f32) : FVec Ideal S128x128 .f32 :=
  divf (matmul (DotDims.plain 128 N 128) none p v (constant S128x128 .f32 0x00000000#32))
    (broadcastTo S128x128 (shapeCast S128x1 (multiReduction .add [1] S128 p 0x00000000#32 (red N) (.inl rfl) rfl) shapeCasts_S128_S128x1)
      broadcasts_S128x1_S128x128)

/-- The gate's 128 lanes from `lo` on fit in its row. -/
theorem slc {lo : ℕ} (h : lo + 128 ≤ 2048) : S1x2048.Slices ![0, lo] S1x128 :=
  ⟨rfl, fun a => by match a with | ⟨0, _⟩ => exact le_refl _ | ⟨1, _⟩ => exact h⟩

/-- The weights of the block before the diagonal one. -/
def gP (g : FVec Ideal S1x2048 .f32) (lo : ℕ) (h : lo + 128 ≤ 2048) : FVec Ideal S128x128 .f32 :=
  maximumf (broadcastTo S128x128 (extractStridedSlice S1x128 ![0, lo] g (slc h)) broadcasts_S1x128_S128x128) k1_pay3

/-- The weights of the diagonal block. -/
def gD (g : FVec Ideal S1x2048 .f32) (lo : ℕ) (h : lo + 128 ≤ 2048) : FVec Ideal S128x128 .f32 :=
  select (andi (broadcastTo S128x128 (cmpf .ogt (extractStridedSlice S1x128 ![0, lo] g (slc h)) (broadcast S1x128 (Scalar.ofBits .f32 0x00000000#32)))
      broadcasts_S1x128_S128x128) k1_pay4)
    (broadcast S128x128 (Scalar.ofBits .f32 0x3F800000#32)) (sitofp .f32 (extui 32 k1_pay5 natLt_1_32))

/-- 128 columns from `lo` on of a block of `N` columns. -/
theorem slcN {N lo : ℕ} (h : lo + 128 ≤ N) : Shape.Slices ⟨2, ![128, N]⟩ ![0, lo] S128x128 :=
  ⟨rfl, fun a => by match a with | ⟨0, _⟩ => exact le_refl _ | ⟨1, _⟩ => exact h⟩

/-- The first `M` columns of a block of `M + 256` columns. -/
theorem slcM {M N : ℕ} (hN : M + 256 = N) : Shape.Slices ⟨2, ![128, N]⟩ ![0, 0] ⟨2, ![128, M]⟩ :=
  ⟨rfl, fun a => by match a with | ⟨0, _⟩ => exact le_refl _ | ⟨1, _⟩ => exact (by show 0 + M ≤ N; omega)⟩

/-- The gate's first `M` lanes. -/
theorem slcG {M : ℕ} (h : M ≤ 2048) : S1x2048.Slices ![0, 0] ⟨2, ![1, M]⟩ :=
  ⟨rfl, fun a => by match a with | ⟨0, _⟩ => exact le_refl _ | ⟨1, _⟩ => exact (by show 0 + M ≤ 2048; omega)⟩

/-- One row of `M` lanes is repeated down 128 rows. -/
theorem bcM (M : ℕ) : Shape.Broadcasts ⟨2, ![1, M]⟩ ⟨2, ![128, M]⟩ :=
  ⟨le_refl _, fun a => by match a with | ⟨0, _⟩ => exact .inl rfl | ⟨1, _⟩ => exact .inr fun _ => rfl⟩

/-- Three pieces of `M`, 128 and 128 columns laid side by side. -/
theorem cat3 {M N : ℕ} (hN : M + 256 = N) : Shape.Concatenates [⟨2, ![128, M]⟩, S128x128, S128x128] ⟨2, ![128, N]⟩ 1 := by
  refine ⟨by show 2 ≤ 3; decide, fun s hs => ?_, ?_⟩
  · simp only [List.mem_cons, List.not_mem_nil, or_false] at hs
    rcases hs with rfl | rfl | rfl <;> exact ⟨rfl, fun b hb => by match b with | ⟨0, _⟩ => rfl | ⟨1, _⟩ => exact absurd rfl hb⟩
  · show M + (128 + (128 + 0)) = N
    omega

/-- The first block of rows: its own 128 keys. -/
def blk0 (g : FVec Ideal S1x2048 .f32) (q : FVec Ideal S128x128 .f32) (k v : FVec Ideal S128x128 .f32) : FVec Ideal S128x128 .f32 :=
  bO 128 (mulf (bE 128 q k) (gD g 0 (by decide))) v

/-- The second block of rows: 256 keys. -/
def blk1 (g : FVec Ideal S1x2048 .f32) (q : FVec Ideal S128x128 .f32) (k v : FVec Ideal S256x128 .f32) : FVec Ideal S128x128 .f32 :=
  bO 256 (concatenate S128x256 1
    [⟨S128x128, mulf (extractStridedSlice S128x128 ![0, 0] (bE 256 q k) (slcN (by decide))) (gP g 0 (by decide))⟩,
     ⟨S128x128, mulf (extractStridedSlice S128x128 ![0, 128] (bE 256 q k) (slcN (by decide))) (gD g 128 (by decide))⟩]
    concatenates_S128x128_S128x128_S128x256_d1) v

/-- A later block of rows: `M` keys weighted by the gate, then the block before the diagonal, then the diagonal one. -/
def blk2 (M M' N : ℕ) (hM' : M + 128 = M') (hN : M + 256 = N) (hM : N ≤ 2048) (g : FVec Ideal S1x2048 .f32) (q : FVec Ideal S128x128 .f32)
    (k v : FVec Ideal ⟨2, ![N, 128]⟩ .f32) : FVec Ideal S128x128 .f32 :=
  bO N (concatenate ⟨2, ![128, N]⟩ 1
    [⟨⟨2, ![128, M]⟩, mulf (extractStridedSlice ⟨2, ![128, M]⟩ ![0, 0] (bE N q k) (slcM hN))
        (broadcastTo ⟨2, ![128, M]⟩ (extractStridedSlice ⟨2, ![1, M]⟩ ![0, 0] g (slcG (by omega))) (bcM M))⟩,
     ⟨S128x128, mulf (extractStridedSlice S128x128 ![0, M] (bE N q k) (slcN (by omega))) (gP g M (by omega))⟩,
     ⟨S128x128, mulf (extractStridedSlice S128x128 ![0, M'] (bE N q k) (slcN (by omega))) (gD g M' (by omega))⟩]
    (cat3 hN)) v

/-- A score's exponential at a row and a key. -/
theorem bE_apply (N : ℕ) (q : FVec Ideal S128x128 .f32) (k : FVec Ideal ⟨2, ![N, 128]⟩ .f32) (r : Fin 128) (c : Fin N) :
    bE N q k (ix2 r c) = Ideal.exp (∑ e : Fin 128, q (ix2 r e) * scl * k (ix2 c e)) := by
  have h : bE N q k (ix2 r c) = Ideal.exp (matmul (DotDims.transposedRhs 128 128 N) none (bQ q) k (constant ⟨2, ![128, N]⟩ .f32 0x00000000#32) (ix2 r c)) := rfl
  rw [h]
  congr 1
  refine (Ideal.matmul_transposedRhs_apply none (bQ q) k _ r c).trans ?_
  rw [show (constant (F := Ideal) ⟨2, ![128, N]⟩ .f32 0x00000000#32) (ValueIdx.ix2 r c) = (0 : EReal) from Ideal.ofBits_zero_f32, zero_add]
  refine Finset.sum_congr rfl fun e _ => ?_
  congr 1
  show bQ q (ix2 r e) = _
  pointwise [bQ]

/-- The block's result at a row and a lane. -/
theorem bO_apply (N : ℕ) (p : FVec Ideal ⟨2, ![128, N]⟩ .f32) (v : FVec Ideal ⟨2, ![N, 128]⟩ .f32) (r d : Fin 128) :
    bO N p v (ix2 r d) = Ideal.div (∑ c : Fin N, p (ix2 r c) * v (ix2 c d)) (∑ c : Fin N, p (ix2 r c)) := by
  have h : bO N p v (ix2 r d) = Ideal.div (matmul (DotDims.plain 128 N 128) none p v (constant S128x128 .f32 0x00000000#32) (ix2 r d))
    (broadcastTo S128x128 (shapeCast S128x1 (multiReduction .add [1] S128 p 0x00000000#32 (red N) (.inl rfl) rfl) shapeCasts_S128_S128x1)
      broadcasts_S128x1_S128x128 (ix2 r d)) := rfl
  rw [h]
  congr 1
  · refine (Ideal.matmul_plain_apply none p v _ r d).trans ?_
    rw [show (constant (F := Ideal) S128x128 .f32 0x00000000#32) (ValueIdx.ix2 r d) = (0 : EReal) from Ideal.ofBits_zero_f32, zero_add]
    rfl
  · generalize hm : (multiReduction .add [1] S128 p 0x00000000#32 (red N) (.inl rfl) rfl) = m
    have : m (ix1 r) = ∑ c : Fin N, p (ix2 r c) := by
      rw [← hm]
      refine (Ideal.multiReduction_add_single p _ (red N) _ _ (ix1 r)).trans ?_
      refine Finset.sum_congr rfl fun c _ => congrArg p ?_
      funext a
      apply Fin.ext
      match a with
      | ⟨0, _⟩ => rfl
      | ⟨1, _⟩ => rfl
    rw [← this]
    pointwise

/-- The weight at a row of a block and a key, `N` the number of keys: the gate's before the last 256, then with the corner, then the diagonal block's. -/
def wt (g : Fin 2048 → EReal) (N : ℕ) (r : Fin 128) (j : Fin 2048) : EReal :=
  if j.val + 256 < N then g j
  else if j.val + 128 < N then max (g j) (if r.val + 113 ≤ j.val % 128 then 1 else 0)
  else if 0 < g j ∧ j.val % 128 ≤ r.val then 1
  else if j.val % 128 ≤ r.val ∧ r.val < j.val % 128 + 16 then 1 else 0

/-- A one-bit word widened and read as a number. -/
theorem sitofp_bit (p : Prop) [Decidable p] :
    FloatOps.sitofp (F := Ideal) .f32 (BitVec.setWidth 32 (BitVec.ofBool (decide p))) = if p then 1 else 0 := by
  show (((BitVec.setWidth 32 (BitVec.ofBool (decide p))).toInt : ℝ) : EReal) = _
  by_cases h : p <;> simp [h]

/-- The corner's comparison of two words. -/
theorem corner_word : ∀ r c : Fin 128, IntOp.cmpi .sge (BitVec.ofNat 32 c.val) (IntOp.addi (BitVec.ofNat 32 r.val) 113#32)
    = BitVec.ofBool (decide (r.val + 113 ≤ c.val)) := by decide +kernel

/-- The causal comparison of two words. -/
theorem causal_word : ∀ r c : Fin 128, IntOp.cmpi .sge (IntOp.subi (BitVec.ofNat 32 r.val) (BitVec.ofNat 32 c.val)) 0#32
    = BitVec.ofBool (decide (c.val ≤ r.val)) := by decide +kernel

/-- The window's comparison of two words. -/
theorem window_word : ∀ r c : Fin 128, IntOp.andi (IntOp.cmpi .sge (IntOp.subi (BitVec.ofNat 32 r.val) (BitVec.ofNat 32 c.val)) 0#32)
    (IntOp.cmpi .slt (IntOp.subi (BitVec.ofNat 32 r.val) (BitVec.ofNat 32 c.val)) 16#32)
    = BitVec.ofBool (decide (c.val ≤ r.val ∧ r.val < c.val + 16)) := by decide +kernel

/-- The corner's weights. -/
theorem corner_apply (r c : Fin 128) : k1_pay3 (F := Ideal) (ix2 r c) = if r.val + 113 ≤ c.val then 1 else 0 := by
  pointwise [k1_pay3]
  rw [corner_word, sitofp_bit]

/-- The weights of the block before the diagonal one, at an element. -/
theorem gP_apply (g : FVec Ideal S1x2048 .f32) (lo : ℕ) (h : lo + 128 ≤ 2048) (r c : Fin 128) :
    gP g lo h (ix2 r c) = max (g (ix2 0 ⟨lo + c.val, by omega⟩)) (if r.val + 113 ≤ c.val then 1 else 0) := by
  rw [← corner_apply]
  pointwise [gP]

/-- The weights of the diagonal block, at an element. -/
theorem gD_apply (g : FVec Ideal S1x2048 .f32) (lo : ℕ) (h : lo + 128 ≤ 2048) (r c : Fin 128) :
    gD g lo h (ix2 r c) = if 0 < g (ix2 0 ⟨lo + c.val, by omega⟩) ∧ c.val ≤ r.val then 1
      else if c.val ≤ r.val ∧ r.val < c.val + 16 then 1 else 0 := by
  pointwise [gD, k1_pay4, k1_pay5, k1_pay2]
  rw [window_word, causal_word, sitofp_bit]
  by_cases h1 : 0 < g (ix2 0 ⟨lo + c.val, by omega⟩) <;> by_cases h2 : c.val ≤ r.val <;>
    simp [h1, h2, IntOp.andi, Scalar.select]

/-- Before the last 256 keys the weight is the gate's. -/
theorem wt_gate {g : Fin 2048 → EReal} {N : ℕ} {r : Fin 128} {j : Fin 2048} (h : j.val + 256 < N) : wt g N r j = g j := by
  rw [wt, if_pos h]

/-- In the block before the diagonal one the weight is the greater of the gate's and the corner's. -/
theorem wt_corner {g : Fin 2048 → EReal} {N : ℕ} {r : Fin 128} {j : Fin 2048} (c : Fin 128) (h : ¬ j.val + 256 < N) (h' : j.val + 128 < N)
    (hc : j.val % 128 = c.val) : wt g N r j = max (g j) (if r.val + 113 ≤ c.val then 1 else 0) := by
  rw [wt, if_neg h, if_pos h', hc]

/-- In the diagonal block the weight is the causal gate's or the window's. -/
theorem wt_diag {g : Fin 2048 → EReal} {N : ℕ} {r : Fin 128} {j : Fin 2048} (c : Fin 128) (h' : ¬ j.val + 128 < N)
    (hc : j.val % 128 = c.val) : wt g N r j = if 0 < g j ∧ c.val ≤ r.val then 1 else if c.val ≤ r.val ∧ r.val < c.val + 16 then 1 else 0 := by
  rw [wt, if_neg (by omega), if_neg h', hc]

/-- The block's weighted mean at row `r` and lane `d`, over the first `N` keys. -/
def att (g : Fin 2048 → EReal) (N : ℕ) (hN : N ≤ 2048) (q : Fin 128 → EReal) (k v : Fin N → Fin 128 → EReal) (r d : Fin 128) : EReal :=
  Ideal.div
    (∑ c : Fin N, Ideal.exp (∑ e : Fin 128, q e * scl * k c e) * wt g N r ⟨c.val, by omega⟩ * v c d)
    (∑ c : Fin N, Ideal.exp (∑ e : Fin 128, q e * scl * k c e) * wt g N r ⟨c.val, by omega⟩)

/-- A block's result, where its weighted exponentials are the exponentials times the weights. -/
theorem bO_att (g : Fin 2048 → EReal) (N : ℕ) (hN : N ≤ 2048) (q : FVec Ideal S128x128 .f32)
    (k v : FVec Ideal ⟨2, ![N, 128]⟩ .f32) (p : FVec Ideal ⟨2, ![128, N]⟩ .f32)
    (hp : ∀ (r : Fin 128) (c : Fin N), p (ix2 r c) = bE N q k (ix2 r c) * wt g N r ⟨c.val, by omega⟩) (r d : Fin 128) :
    bO N p v (ix2 r d) = att g N hN (fun e => q (ix2 r e)) (fun c e => k (ix2 c e)) (fun c e => v (ix2 c e)) r d := by
  rw [bO_apply, att]
  simp only [hp, bE_apply]

/-- The first block's result at an element. -/
theorem blk0_apply (g : FVec Ideal S1x2048 .f32) (q k v : FVec Ideal S128x128 .f32) (r d : Fin 128) :
    blk0 g q k v (ix2 r d) = att (fun j => g (ix2 0 j)) 128 (by decide) (fun e => q (ix2 r e)) (fun c e => k (ix2 c e)) (fun c e => v (ix2 c e)) r d := by
  refine bO_att _ 128 _ q k v _ (fun r c => ?_) r d
  have hc := c.isLt
  refine congrArg₂ (· * ·) rfl ((gD_apply g 0 _ r c).trans ?_)
  rw [wt_diag c (by simp only; omega) (by simp only; omega)]
  simp only [Nat.zero_add]

/-- The second block's result at an element. -/
theorem blk1_apply (g : FVec Ideal S1x2048 .f32) (q : FVec Ideal S128x128 .f32) (k v : FVec Ideal S256x128 .f32) (r d : Fin 128) :
    blk1 g q k v (ix2 r d) = att (fun j => g (ix2 0 j)) 256 (by decide) (fun e => q (ix2 r e)) (fun c e => k (ix2 c e)) (fun c e => v (ix2 c e)) r d := by
  refine bO_att _ 256 _ q k v _ (fun r c => ?_) r d
  have hc := c.isLt
  generalize bE 256 q k = E
  pointwise
  by_cases h : c.val < 128
  · rw [dif_pos h]
    refine congrArg₂ (· * ·) (by simp only [Nat.zero_add]) ((gP_apply g 0 _ r _).trans ?_)
    rw [wt_corner ⟨c.val, h⟩ (by simp only; omega) (by simp only; omega) (by simp only; omega)]
    simp only [Nat.zero_add]
  · rw [dif_neg h]
    have h2 : 128 + (c.val - 128) = c.val := by omega
    refine congrArg₂ (· * ·) (by simp only [h2]) ((gD_apply g 128 _ r _).trans ?_)
    rw [wt_diag ⟨c.val - 128, by omega⟩ (by simp only; omega) (by simp only; omega)]
    simp only [h2]

/-- The gate's first `M` lanes down 128 rows, at an element. -/
theorem gM_apply (M : ℕ) (hM : M ≤ 2048) (h1 : M ≠ 1) (g : FVec Ideal S1x2048 .f32) (r : Fin 128) (c : Fin M) :
    broadcastTo ⟨2, ![128, M]⟩ (extractStridedSlice ⟨2, ![1, M]⟩ ![0, 0] g (slcG hM)) (bcM M) (ix2 r c) = g (ix2 0 ⟨c.val, by omega⟩) := by
  pointwise
  refine congrArg g (congrArg (ix2 0) (Fin.ext ?_))
  dsimp only
  exact congrArg Fin.val (dif_neg h1)

/-- A later block's result at an element. -/
theorem blk2_apply (M M' N : ℕ) (hM' : M + 128 = M') (hN : M + 256 = N) (hM : N ≤ 2048) (h128 : M % 128 = 0) (g : FVec Ideal S1x2048 .f32) (q : FVec Ideal S128x128 .f32)
    (k v : FVec Ideal ⟨2, ![N, 128]⟩ .f32) (r d : Fin 128) :
    blk2 M M' N hM' hN hM g q k v (ix2 r d) = att (fun j => g (ix2 0 j)) N hM (fun e => q (ix2 r e)) (fun c e => k (ix2 c e)) (fun c e => v (ix2 c e)) r d := by
  refine bO_att _ N _ q k v _ (fun r c => ?_) r d
  have hc := c.isLt
  generalize bE N q k = E
  have hB := gM_apply M (by omega) (by omega) g r
  generalize broadcastTo ⟨2, ![128, M]⟩ (extractStridedSlice ⟨2, ![1, M]⟩ ![0, 0] g (slcG (by omega))) (bcM M) = B at hB ⊢
  refine Eq.trans (b := if h : c.val < M then E (ix2 r c) * g (ix2 0 ⟨c.val, by omega⟩)
    else if h : c.val - M < 128 then E (ix2 r ⟨M + (c.val - M), by omega⟩) * gP g M (by omega) (ix2 r ⟨c.val - M, h⟩)
    else E (ix2 r ⟨M' + (c.val - M - 128), by omega⟩) * gD g M' (by omega) (ix2 r ⟨c.val - M - 128, by omega⟩)) ?_ ?_
  · by_cases h : c.val < M
    · rw [dif_pos h, ← hB ⟨c.val, h⟩]
      pointwise
      rw [dif_pos h]
    · rw [dif_neg h]
      pointwise
      rw [dif_neg h]
  by_cases h : c.val < M
  · rw [dif_pos h]
    refine congrArg₂ (· * ·) rfl ?_
    rw [wt_gate (by simp only; omega)]
  · rw [dif_neg h]
    by_cases h' : c.val - M < 128
    · rw [dif_pos h']
      have h2 : M + (c.val - M) = c.val := by omega
      refine congrArg₂ (· * ·) (by simp only [h2]) ((gP_apply g M _ r _).trans ?_)
      rw [wt_corner ⟨c.val - M, h'⟩ (by simp only; omega) (by simp only; omega) (by simp only; omega)]
      simp only [h2]
    · rw [dif_neg h']
      have h2 : M' + (c.val - M - 128) = c.val := by omega
      refine congrArg₂ (· * ·) (by simp only [h2]) ((gD_apply g M' _ r _).trans ?_)
      rw [wt_diag ⟨c.val - M - 128, by omega⟩ (by simp only; omega) (by simp only; omega)]
      simp only [h2]

end Cert.Proof.Val
-- ==== Proof.Val.AttnSum.lean ====
/-
A block's weighted mean as one over all the keys.
-/
module

public import proofs.«01_k».proof.Proof.Val.AttnBlk
public import Idealize.ShloMosaic.Lib.Pointwise
public import Idealize.ShloMosaic.Lib.Pointwise.IndexVar
public import Idealize.ShloMosaic.Lib.Pointwise.IndexBridge
public import Idealize.ShloMosaic.Lib.MatmulPlain

@[expose] public section

set_option maxRecDepth 16384

noncomputable section

namespace Cert.Proof.Val

open Cert.KernelIdeal Cert.KernelIdeal.Gen
open Idealize.ShloMosaic

/-- The weight at a row and a key of the whole array: none past the row's own block. -/
def W (g : Fin 2048 → EReal) (R j : Fin 2048) : EReal :=
  if j.val < 128 * (R.val / 128 + 1) then wt g (128 * (R.val / 128 + 1)) ⟨R.val % 128, Nat.mod_lt _ (by decide)⟩ j else 0

/-- The weighted mean at row `R` and lane `d`, over all the keys. -/
def attV (g : Fin 2048 → EReal) (q : Fin 128 → EReal) (k v : Fin 2048 → Fin 128 → EReal) (R : Fin 2048) (d : Fin 128) : EReal :=
  Ideal.div
    (∑ j : Fin 2048, Ideal.exp (∑ e : Fin 128, q e * scl * k j e) * W g R j * v j d)
    (∑ j : Fin 2048, Ideal.exp (∑ e : Fin 128, q e * scl * k j e) * W g R j)

/-- A sum over the first `N` of `T` places is the whole sum of what is zero past them. -/
theorem sum_first {T : ℕ} (N : ℕ) (hN : N ≤ T) (f : Fin T → EReal) (h : ∀ j, ¬ j.val < N → f j = 0) :
    ∑ c : Fin N, f ⟨c.val, by omega⟩ = ∑ j, f j := by
  obtain ⟨m, rfl⟩ := Nat.exists_eq_add_of_le hN
  rw [Fin.sum_univ_add, Finset.sum_eq_zero (s := Finset.univ) (f := fun i : Fin m => f (Fin.natAdd N i)) ?_, add_zero]
  · rfl
  · intro i _
    exact h _ (by simp)

/-- A block's weighted mean is the whole array's. -/
theorem att_eq (g : Fin 2048 → EReal) (i N : ℕ) (hi : i < 16) (hN : N = 128 * (i + 1)) (hN' : N ≤ 2048) (q : Fin 128 → EReal)
    (k v : Fin 2048 → Fin 128 → EReal) (r d : Fin 128) (R : Fin 2048) (hR : R.val = 128 * i + r.val) :
    att g N hN' q (fun c e => k ⟨c.val, by omega⟩ e) (fun c e => v ⟨c.val, by omega⟩ e) r d = attV g q k v R d := by
  have hr := r.isLt
  have h1 : R.val / 128 = i := by omega
  have h2 : (⟨R.val % 128, Nat.mod_lt _ (by decide)⟩ : Fin 128) = r := Fin.ext (by simp only; omega)
  have hW : ∀ j : Fin 2048, j.val < N → wt g N r j = W g R j := fun j hj => by
    rw [W, h2, h1, ← hN, if_pos hj]
  have h0 : ∀ j : Fin 2048, ¬ j.val < N → W g R j = 0 := fun j hj => by rw [W, h1, ← hN, if_neg hj]
  rw [att, attV, ← sum_first N hN' _ (fun j hj => by rw [h0 j hj, mul_zero, zero_mul]),
    ← sum_first N hN' _ (fun j hj => by rw [h0 j hj, mul_zero])]
  have hW' : ∀ c : Fin N, wt g N r ⟨c.val, by omega⟩ = W g R ⟨c.val, by omega⟩ := fun c => hW _ c.isLt
  simp only [hW']

end Cert.Proof.Val
-- ==== Proof.Val.Attn.lean ====
/-
What one point of the attention call leaves in its output block, at an index.
-/
module

public import proofs.«01_k».proof.Proof.KI.R1
public import proofs.«01_k».proof.Proof.Val.AttnSum
public import Idealize.ShloMosaic.Lib.Pipeline.Value

@[expose] public section

set_option maxRecDepth 16384

noncomputable section

namespace Cert.Proof.Val

open Cert.KernelIdeal Cert.KernelIdeal.Gen Cert.Proof.KI
open Idealize.ShloMosaic

/-- The tile of 128 rows and 128 columns at block `(i, h)` of a point's output block. -/
abbrev tile (i h : ℕ) (hi : i < 16) (hh : h < 4) : Rect S2048x512 :=
  Rect.unit (s := S2048x512) ![128 * i, 128 * h] S128x128.size fun a => by
    match a with | ⟨0, _⟩ => exact (by show 128 * i + 128 ≤ 2048; omega) | ⟨1, _⟩ => exact (by show 128 * h + 128 ≤ 512; omega)

/-- The first `N` rows of a point's keys or values. -/
abbrev rows (N : ℕ) (hN : N ≤ 2048) : Rect S2048x128 :=
  Rect.unit (s := S2048x128) ![0, 0] (⟨2, ![N, 128]⟩ : Shape).size fun a => by
    match a with | ⟨0, _⟩ => exact (by show 0 + N ≤ 2048; omega) | ⟨1, _⟩ => exact (by show 0 + 128 ≤ 128; omega)

variable (x0 : Vec Ideal S1x1x2048 .f32) (x1 : Vec Ideal S2048x512 .f32) (x2 x3 : Vec Ideal S2048x128 .f32)

/-- An array's reading at its own shape. -/
theorem scR (s : Shape) : s.ShapeCasts s := rfl

/-- The stores of block row 0, last first. -/
def row0 : List (View.Piece (Elt Ideal) S2048x512 .f32) :=
  let P := fun (h : ℕ) (hh : h < 4) => (⟨tile 0 h (by decide) hh, blk0 (k1_pay1 (View.ld x0 r1_0)) (View.ld x1 (tile 0 h (by decide) hh))
      (shapeCast S128x128 (View.ld x2 (rows 128 (by decide))) (scR _)) (shapeCast S128x128 (View.ld x3 (rows 128 (by decide))) (scR _))⟩ :
    View.Piece (Elt Ideal) S2048x512 .f32)
  [P 3 (by decide), P 2 (by decide), P 1 (by decide), P 0 (by decide)]

/-- The stores of block row 1, last first. -/
def row1 : List (View.Piece (Elt Ideal) S2048x512 .f32) :=
  let P := fun (h : ℕ) (hh : h < 4) => (⟨tile 1 h (by decide) hh, blk1 (k1_pay1 (View.ld x0 r1_0)) (View.ld x1 (tile 1 h (by decide) hh))
      (shapeCast S256x128 (View.ld x2 (rows 256 (by decide))) (scR _)) (shapeCast S256x128 (View.ld x3 (rows 256 (by decide))) (scR _))⟩ :
    View.Piece (Elt Ideal) S2048x512 .f32)
  [P 3 (by decide), P 2 (by decide), P 1 (by decide), P 0 (by decide)]

/-- The stores of a later block row `i`, last first; `N` keys, of which the last 256 from `M` on, the last 128 from `M'` on. -/
def row2 (i M M' N : ℕ) (hi : i < 16) (hM' : M + 128 = M') (hN : M + 256 = N) (hM : N ≤ 2048) : List (View.Piece (Elt Ideal) S2048x512 .f32) :=
  let P := fun (h : ℕ) (hh : h < 4) => (⟨tile i h hi hh, blk2 M M' N hM' hN hM (k1_pay1 (View.ld x0 r1_0)) (View.ld x1 (tile i h hi hh))
      (shapeCast ⟨2, ![N, 128]⟩ (View.ld x2 (rows N hM)) (scR _)) (shapeCast ⟨2, ![N, 128]⟩ (View.ld x3 (rows N hM)) (scR _))⟩ :
    View.Piece (Elt Ideal) S2048x512 .f32)
  [P 3 (by decide), P 2 (by decide), P 1 (by decide), P 0 (by decide)]

set_option maxHeartbeats 4000000 in
/-- The point's stores are the sixteen rows', and cover the block. -/
theorem out1_4_rows : ∃ L : List (View.Piece (Elt Ideal) S2048x512 .f32), out1_4 x0 x1 x2 x3 = View.canon L ∧ (∀ y, ∃ p ∈ L, y ∈ p.1.set)
    ∧ L = row2 x0 x1 x2 x3 15 1792 1920 2048 (by decide) rfl rfl (by decide)
      ++ row2 x0 x1 x2 x3 14 1664 1792 1920 (by decide) rfl rfl (by decide)
      ++ row2 x0 x1 x2 x3 13 1536 1664 1792 (by decide) rfl rfl (by decide)
      ++ row2 x0 x1 x2 x3 12 1408 1536 1664 (by decide) rfl rfl (by decide)
      ++ row2 x0 x1 x2 x3 11 1280 1408 1536 (by decide) rfl rfl (by decide)
      ++ row2 x0 x1 x2 x3 10 1152 1280 1408 (by decide) rfl rfl (by decide)
      ++ row2 x0 x1 x2 x3 9 1024 1152 1280 (by decide) rfl rfl (by decide)
      ++ row2 x0 x1 x2 x3 8 896 1024 1152 (by decide) rfl rfl (by decide)
      ++ row2 x0 x1 x2 x3 7 768 896 1024 (by decide) rfl rfl (by decide)
      ++ row2 x0 x1 x2 x3 6 640 768 896 (by decide) rfl rfl (by decide)
      ++ row2 x0 x1 x2 x3 5 512 640 768 (by decide) rfl rfl (by decide)
      ++ row2 x0 x1 x2 x3 4 384 512 640 (by decide) rfl rfl (by decide)
      ++ row2 x0 x1 x2 x3 3 256 384 512 (by decide) rfl rfl (by decide)
      ++ row2 x0 x1 x2 x3 2 128 256 384 (by decide) rfl rfl (by decide)
      ++ row1 x0 x1 x2 x3 ++ row0 x0 x1 x2 x3 := by
  refine ⟨_, rfl, fun y => cover1_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y, ?_⟩
  dsimp only [row2, row1, row0, List.cons_append, List.nil_append]
  repeat' (refine congrArg₂ List.cons ?_ ?_)
  all_goals first
    | rfl
    | (unfold_payloads; unfold_payloads; dsimp only [blk0, blk1, blk2, bO, bE, gP, gD, bQ]; rfl)

end Cert.Proof.Val
-- ==== Proof.Val.AttnOut.lean ====
/-
One point of the attention call at an index of its output block.
-/
module

public import proofs.«01_k».proof.Proof.Val.Attn

@[expose] public section

set_option maxRecDepth 16384

noncomputable section

namespace Cert.Proof.Val

open Cert.KernelIdeal Cert.KernelIdeal.Gen Cert.Proof.KI
open Idealize.ShloMosaic

variable (x0 : Vec Ideal S1x1x2048 .f32) (x1 : Vec Ideal S2048x512 .f32) (x2 x3 : Vec Ideal S2048x128 .f32)

/-- The gate's row as the body reads it. -/
theorem gate_apply (j : Fin 2048) : k1_pay1 (View.ld x0 r1_0) (ix2 0 j) = x0 (ix3 0 0 j) := by
  pointwise [k1_pay1]

/-- A tile of the queries at an element. -/
theorem tile_apply (i h : ℕ) (hi : i < 16) (hh : h < 4) (r e : Fin 128) :
    View.ld x1 (tile i h hi hh) (ix2 r e) = x1 (ix2 ⟨128 * i + r.val, by omega⟩ ⟨128 * h + e.val, by omega⟩) := by
  pointwise

/-- The first rows of the keys or values at an element. -/
theorem rows_apply (N : ℕ) (hN : N ≤ 2048) (c : Fin N) (e : Fin 128) :
    shapeCast ⟨2, ![N, 128]⟩ (View.ld x2 (rows N hN)) (scR _) (ix2 c e) = x2 (ix2 ⟨c.val, by omega⟩ e) := by
  have h : shapeCast (⟨2, ![N, 128]⟩ : Shape) (View.ld x2 (rows N hN)) (scR _) = View.ld x2 (rows N hN) := by
    funext j
    exact congrArg _ (Shape.reshapeEquiv_self _ _)
  rw [h]
  pointwise

/-- What the block's array is to hold at a row and a column. -/
def out1V (R : Fin 2048) (C : Fin 512) : EReal :=
  attV (fun j => x0 (ix3 0 0 j)) (fun e => x1 (ix2 R ⟨128 * (C.val / 128) + e.val, by omega⟩))
    (fun j e => x2 (ix2 j e)) (fun j e => x3 (ix2 j e)) R ⟨C.val % 128, Nat.mod_lt _ (by decide)⟩

/-- A block whose value is the weighted mean stores its tile of the array. -/
theorem piece_ok (i h N : ℕ) (hi : i < 16) (hh : h < 4) (hN : N = 128 * (i + 1)) (hN' : N ≤ 2048) (p : FVec Ideal S128x128 .f32)
    (hp : ∀ r d : Fin 128, p (ix2 r d) = att (fun j => k1_pay1 (View.ld x0 r1_0) (ix2 0 j)) N hN'
      (fun e => View.ld x1 (tile i h hi hh) (ix2 r e))
      (fun c e => shapeCast ⟨2, ![N, 128]⟩ (View.ld x2 (rows N hN')) (scR _) (ix2 c e))
      (fun c e => shapeCast ⟨2, ![N, 128]⟩ (View.ld x3 (rows N hN')) (scR _) (ix2 c e)) r d) (x : S128x128.Idx) :
    p x = (fun y : S2048x512.Idx => out1V x0 x1 x2 x3 (y 0) (y 1)) ((tile i h hi hh).emb x) := by
  obtain ⟨r, d, rfl⟩ : ∃ (r d : Fin 128), x = ix2 r d := ⟨x 0, x 1, eq_ix2 x⟩
  have hd := d.isLt
  have e0 : (tile i h hi hh).emb (ix2 r d) 0 = (⟨128 * i + r.val, by omega⟩ : Fin 2048) :=
    Fin.ext (congrArg (128 * i + ·) (Nat.one_mul _))
  have e1 : (tile i h hi hh).emb (ix2 r d) 1 = (⟨128 * h + d.val, by omega⟩ : Fin 512) :=
    Fin.ext (congrArg (128 * h + ·) (Nat.one_mul _))
  have hA : (fun j => k1_pay1 (View.ld x0 r1_0) (ix2 0 j)) = fun j => x0 (ix3 0 0 j) := funext (gate_apply x0)
  have hB : (fun e => View.ld x1 (tile i h hi hh) (ix2 r e)) = fun e : Fin 128 => x1 (ix2 ⟨128 * i + r.val, by omega⟩ ⟨128 * h + e.val, by omega⟩) :=
    funext (tile_apply x1 i h hi hh r)
  have hC (z : Vec Ideal S2048x128 .f32) : (fun c e => shapeCast ⟨2, ![N, 128]⟩ (View.ld z (rows N hN')) (scR _) (ix2 c e))
      = fun (c : Fin N) (e : Fin 128) => z (ix2 ⟨c.val, by omega⟩ e) :=
    funext fun c => funext fun e => rows_apply z N hN' c e
  have h1 : p (ix2 r d) = att (fun j => x0 (ix3 0 0 j)) N hN' (fun e : Fin 128 => x1 (ix2 ⟨128 * i + r.val, by omega⟩ ⟨128 * h + e.val, by omega⟩))
      (fun (c : Fin N) (e : Fin 128) => x2 (ix2 ⟨c.val, by omega⟩ e)) (fun (c : Fin N) (e : Fin 128) => x3 (ix2 ⟨c.val, by omega⟩ e)) r d := by
    rw [hp, hA, hB, hC, hC]
  have h2 : (128 * h + d.val) / 128 = h := by omega
  have h3 : (128 * h + d.val) % 128 = d.val := by omega
  refine h1.trans ((att_eq _ i N hi hN hN' _ (fun j e => x2 (ix2 j e)) (fun j e => x3 (ix2 j e)) r d ⟨128 * i + r.val, by omega⟩ rfl).trans ?_)
  refine Eq.trans ?_ (congrArg₂ (out1V x0 x1 x2 x3) e0 e1).symm
  simp only [out1V, h2, h3]

/-- The pieces of the first block row. -/
theorem row0_ok : ∀ p ∈ row0 x0 x1 x2 x3, ∀ x, p.2 x = (fun y : S2048x512.Idx => out1V x0 x1 x2 x3 (y 0) (y 1)) (p.1.emb x) := by
  intro p hp
  simp only [row0, List.mem_cons, List.not_mem_nil, or_false] at hp
  rcases hp with rfl | rfl | rfl | rfl <;>
    exact piece_ok x0 x1 x2 x3 _ _ 128 _ _ rfl _ _ fun r d => blk0_apply _ _ _ _ r d

/-- The pieces of the second block row. -/
theorem row1_ok : ∀ p ∈ row1 x0 x1 x2 x3, ∀ x, p.2 x = (fun y : S2048x512.Idx => out1V x0 x1 x2 x3 (y 0) (y 1)) (p.1.emb x) := by
  intro p hp
  simp only [row1, List.mem_cons, List.not_mem_nil, or_false] at hp
  rcases hp with rfl | rfl | rfl | rfl <;>
    exact piece_ok x0 x1 x2 x3 _ _ 256 _ _ rfl _ _ fun r d => blk1_apply _ _ _ _ r d

/-- The pieces of a later block row. -/
theorem row2_ok (i M M' N : ℕ) (hi : i < 16) (hM' : M + 128 = M') (hN : M + 256 = N) (hM : N ≤ 2048) (h : N = 128 * (i + 1)) :
    ∀ p ∈ row2 x0 x1 x2 x3 i M M' N hi hM' hN hM, ∀ x, p.2 x = (fun y : S2048x512.Idx => out1V x0 x1 x2 x3 (y 0) (y 1)) (p.1.emb x) := by
  have P (a : ℕ) (ha : a < 4) := piece_ok x0 x1 x2 x3 i a N hi ha h hM
    (blk2 M M' N hM' hN hM (k1_pay1 (View.ld x0 r1_0)) (View.ld x1 (tile i a hi ha))
      (shapeCast ⟨2, ![N, 128]⟩ (View.ld x2 (rows N hM)) (scR _)) (shapeCast ⟨2, ![N, 128]⟩ (View.ld x3 (rows N hM)) (scR _)))
    fun r d => blk2_apply M M' N hM' hN hM (by omega) _ _ _ _ r d
  intro p hp
  rcases List.mem_cons.mp hp with e | hp
  · rw [e]; exact P 3 (by decide)
  rcases List.mem_cons.mp hp with e | hp
  · rw [e]; exact P 2 (by decide)
  rcases List.mem_cons.mp hp with e | hp
  · rw [e]; exact P 1 (by decide)
  rcases List.mem_cons.mp hp with e | hp
  · rw [e]; exact P 0 (by decide)
  · exact absurd hp (List.not_mem_nil)

/-- The attention body's output block at an index. -/
theorem out1_apply (R : Fin 2048) (C : Fin 512) : out1_4 x0 x1 x2 x3 (ix2 R C) = out1V x0 x1 x2 x3 R C := by
  obtain ⟨L, h1, h2, h3⟩ := out1_4_rows x0 x1 x2 x3
  rw [h1]
  refine View.canon_apply_of_pieces (fun y : S2048x512.Idx => out1V x0 x1 x2 x3 (y 0) (y 1)) L ?_ _ (h2 _)
  rw [h3]
  simp only [List.forall_mem_append]
  repeat' (refine And.intro ?_ ?_)
  all_goals first | exact row0_ok x0 x1 x2 x3 | exact row1_ok x0 x1 x2 x3 | exact row2_ok x0 x1 x2 x3 _ _ _ _ _ _ _ _ (by rfl)

end Cert.Proof.Val
-- ==== Proof.Val.Spec.lean ====
/-
The layer as a function of its arguments' entries: projections and rotation, the block scores, the gated causal attention and
the output projection, over the extended reals.
-/
module

public import proofs.«01_k».proof.Proof.Val.Proj
public import proofs.«01_k».proof.Proof.Val.AttnOut

@[expose] public section

noncomputable section

namespace Cert.Proof.Val

open Idealize.ShloMosaic
open scoped BigOperators

/-- The arguments' entries. -/
structure In where
  x : Fin 2048 → Fin 2048 → EReal
  cs : Fin 2048 → Fin 128 → EReal
  sn : Fin 2048 → Fin 128 → EReal
  wq : Fin 2048 → Fin 2048 → EReal
  bq : Fin 2048 → EReal
  wk : Fin 2048 → Fin 512 → EReal
  bk : Fin 512 → EReal
  wv : Fin 2048 → Fin 512 → EReal
  bv : Fin 512 → EReal
  wo : Fin 2048 → Fin 2048 → EReal

namespace In

variable (I : In)

/-- Query head `h` at row `R`. -/
def q (R : Fin 2048) (h : Fin 16) : Fin 128 → EReal :=
  ropeAt (fun e => linAt (I.x R) (fun j => I.wq j ⟨128 * h.val + e.val, by omega⟩) (I.bq ⟨128 * h.val + e.val, by omega⟩))
    (I.cs R) (I.sn R)

/-- Key head `h` at row `R`. -/
def k (R : Fin 2048) (h : Fin 4) : Fin 128 → EReal :=
  ropeAt (fun e => linAt (I.x R) (fun j => I.wk j ⟨128 * h.val + e.val, by omega⟩) (I.bk ⟨128 * h.val + e.val, by omega⟩))
    (I.cs R) (I.sn R)

/-- The values at row `R`, column `C`. -/
def v (R : Fin 2048) (C : Fin 512) : EReal := linAt (I.x R) (fun j => I.wv j C) (I.bv C)

/-- The score of key block `n` for key head `h`. -/
def score (h : Fin 4) (n : Fin 16) : EReal :=
  scoreOf (qoOf fun g r d => I.q ⟨2032 + r.val, by omega⟩ ⟨4 * h.val + g.val, by omega⟩ d)
    (fun r d => I.k ⟨128 * n.val + r.val, by omega⟩ h d)

/-- The gate of key head `h` at key `j`, of the blocks `S` chosen for each head. -/
def gate (S : Fin 4 → Finset (Fin 16)) (h : Fin 4) (j : Fin 2048) : EReal := if (⟨j.val / 128, by omega⟩ : Fin 16) ∈ S h then 1 else 0

/-- One entry of the attention's result: row `R`, column `C`. -/
def att (S : Fin 4 → Finset (Fin 16)) (R C : Fin 2048) : EReal :=
  attV (gate S ⟨C.val / 512, by omega⟩) (I.q R ⟨C.val / 128, by omega⟩) (fun j => I.k j ⟨C.val / 512, by omega⟩)
    (fun j e => I.v j ⟨128 * (C.val / 512) + e.val, by omega⟩) R ⟨C.val % 128, Nat.mod_lt _ (by decide)⟩

/-- One entry of the layer's result. -/
def out (S : Fin 4 → Finset (Fin 16)) (R C : Fin 2048) : EReal := ∑ j, I.att S R j * I.wo j C

end In

end Cert.Proof.Val
-- ==== Proof.Val.Arr0.lean ====
/-
What the projection call leaves in its four result arrays, entry by entry.
-/
module

public import proofs.«01_k».proof.Proof.Val.Spec
public import Idealize.ShloMosaic.Lib.Pipeline.ValueKit

@[expose] public section

set_option maxRecDepth 16384

noncomputable section

namespace Cert.Proof.Val

open Cert.KernelIdeal Cert.KernelIdeal.Gen Cert.Proof.KI
open Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b)) (c : Dev nD)

/-- The arguments' entries as the projection call and the output call find them. -/
def inOf : In where
  x R j := V c main_v0 (ix2 R j)
  cs R d := V c main_v1 (ix2 R d)
  sn R d := V c main_v2 (ix2 R d)
  wq j C := V c main_arg5 (ix2 j C)
  bq C := V c main_call0_v0 (ix2 0 C)
  wk j C := V c main_arg7 (ix2 j C)
  bk C := V c main_call0_v1 (ix2 0 C)
  wv j C := V c main_arg9 (ix2 j C)
  bv C := V c main_call0_v2 (ix2 0 C)
  wo j C := V c main_arg11 (ix2 j C)

/-- The grid has four points. -/
theorem lt4 (t : Fin cfg0.N) : t.val < 4 := Nat.lt_of_lt_of_eq t.isLt N_0

/-- The windows' blocks at each point. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, 0] ∧ win0_11.index t = ![t.val, 0] ∧ win0_12.index t = ![0, 0] := by decide +kernel

/-- The point's rows of the hidden states. -/
theorem blk0_0 (t : Fin cfg0.N) (r : Fin 512) (j : Fin 2048) :
    iblk0 V c 0 t (ix2 r j) = V c main_v0 (ix2 ⟨512 * t.val + r.val, by have := lt4 t; omega⟩ j) := by
  blk_ext [iblk0, idx0 t]
/-- The point's rows of the cosines. -/
theorem blk0_7 (t : Fin cfg0.N) (r : Fin 512) (j : Fin 128) :
    iblk0 V c 7 t (ix2 r j) = V c main_v1 (ix2 ⟨512 * t.val + r.val, by have := lt4 t; omega⟩ j) := by
  blk_ext [iblk0, idx0 t]
/-- The point's rows of the sines. -/
theorem blk0_8 (t : Fin cfg0.N) (r : Fin 512) (j : Fin 128) :
    iblk0 V c 8 t (ix2 r j) = V c main_v2 (ix2 ⟨512 * t.val + r.val, by have := lt4 t; omega⟩ j) := by
  blk_ext [iblk0, idx0 t]
/-- The query weights' block is the whole array. -/
theorem blk0_1 (t : Fin cfg0.N) (j C : Fin 2048) : iblk0 V c 1 t (ix2 j C) = V c main_arg5 (ix2 j C) := by
  blk_ext [iblk0, idx0 t]
/-- The key weights' block is the whole array. -/
theorem blk0_2 (t : Fin cfg0.N) (j : Fin 2048) (C : Fin 512) : iblk0 V c 2 t (ix2 j C) = V c main_arg7 (ix2 j C) := by
  blk_ext [iblk0, idx0 t]
/-- The value weights' block is the whole array. -/
theorem blk0_3 (t : Fin cfg0.N) (j : Fin 2048) (C : Fin 512) : iblk0 V c 3 t (ix2 j C) = V c main_arg9 (ix2 j C) := by
  blk_ext [iblk0, idx0 t]
/-- The query bias's block is the whole row. -/
theorem blk0_4 (t : Fin cfg0.N) (C : Fin 2048) : iblk0 V c 4 t (ix2 0 C) = V c main_call0_v0 (ix2 0 C) := by
  blk_ext [iblk0, idx0 t]
/-- The key bias's block is the whole row. -/
theorem blk0_5 (t : Fin cfg0.N) (C : Fin 512) : iblk0 V c 5 t (ix2 0 C) = V c main_call0_v1 (ix2 0 C) := by
  blk_ext [iblk0, idx0 t]
/-- The value bias's block is the whole row. -/
theorem blk0_6 (t : Fin cfg0.N) (C : Fin 512) : iblk0 V c 6 t (ix2 0 C) = V c main_call0_v2 (ix2 0 C) := by
  blk_ext [iblk0, idx0 t]

/-- The queries one point stores. -/
theorem qAt_apply (t : Fin cfg0.N) (r : Fin 512) (h : Fin 16) (d : Fin 128) :
    qAt V c t (ix2 r ⟨128 * h.val + d.val, by omega⟩)
      = (inOf V c).q ⟨512 * t.val + r.val, by have := lt4 t; omega⟩ h d := by
  refine (qOut_apply _ _ _ _ _ r h d).trans (ropeAt_congr d (funext fun e => ?_) (funext fun e => blk0_7 V c t r e)
    (funext fun e => blk0_8 V c t r e))
  unfold linAt
  exact congrArg₂ (· + ·) (Finset.sum_congr rfl fun j _ => congrArg₂ (· * ·) (blk0_0 V c t r j) (blk0_1 V c t j _)) (blk0_4 V c t _)

/-- The keys one point stores. -/
theorem kAt_apply (t : Fin cfg0.N) (h : Fin 4) (r : Fin 512) (d : Fin 128) :
    kAt V c t h (ix2 r d) = (inOf V c).k ⟨512 * t.val + r.val, by have := lt4 t; omega⟩ h d := by
  refine (kPiece_apply _ _ _ _ _ h r d).trans (ropeAt_congr d (funext fun e => ?_) (funext fun e => blk0_7 V c t r e)
    (funext fun e => blk0_8 V c t r e))
  unfold linAt
  exact congrArg₂ (· + ·) (Finset.sum_congr rfl fun j _ => congrArg₂ (· * ·) (blk0_0 V c t r j) (blk0_2 V c t j _)) (blk0_5 V c t _)

/-- The values one point stores. -/
theorem vAt_apply (t : Fin cfg0.N) (r C : Fin 512) :
    vAt V c t (ix2 r C) = (inOf V c).v ⟨512 * t.val + r.val, by have := lt4 t; omega⟩ C := by
  refine (vOut_apply _ _ _ r C).trans ?_
  unfold In.v linAt
  exact congrArg₂ (· + ·) (Finset.sum_congr rfl fun j _ => congrArg₂ (· * ·) (blk0_0 V c t r j) (blk0_3 V c t j _)) (blk0_6 V c t _)

/-- The whole keys. -/
theorem kFull_apply (R : Fin 2048) (h : Fin 4) (d : Fin 128) :
    kFull V c (ix2 R ⟨128 * h.val + d.val, by omega⟩) = (inOf V c).k R h d := by
  have e1 : (128 * h.val + d.val) / 128 = h.val := by omega
  have e2 : (128 * h.val + d.val) % 128 = d.val := by omega
  refine Eq.trans ?_ ((kAt_apply V c (pt0 (R.val / 512) (by omega)) h ⟨R.val % 512, Nat.mod_lt _ (by decide)⟩ d).trans
    (congrArg (fun R => (inOf V c).k R h d) (Fin.ext (Nat.div_add_mod R.val 512))))
  unfold kFull kCat
  have eh : (⟨(128 * h.val + d.val) / 128, by omega⟩ : Fin 4) = h := Fin.ext e1
  refine (congrFun (congrArg (kAt V c (pt0 (R.val / 512) (by omega))) eh) _).trans (congrArg _ ?_)
  funext a
  fin_cases a
  · rfl
  · exact Fin.ext e2

/-- A function of a point and of an index in its block, at equal points and indices. -/
theorem at_congr {C : ℕ} (f : Fin cfg0.N → Shape.Idx ⟨2, ![512, C]⟩ → EReal) (t : Fin cfg0.N) (y : Shape.Idx ⟨2, ![512, C]⟩)
    (a b : ℕ) (ha : a = t.val * 512 + (y 0).val) (hb : b = (y 1).val) (h1 : a / 512 < 4) (h2 : a % 512 < 512) (h3 : b < C) :
    f t y = f (pt0 (a / 512) h1) (ix2 ⟨a % 512, h2⟩ ⟨b, h3⟩) := by
  have hy : (y 0).val < 512 := (y 0).isLt
  have et : t = pt0 (a / 512) h1 := Fin.ext (show t.val = a / 512 by omega)
  have ey : y = ix2 ⟨a % 512, h2⟩ ⟨b, h3⟩ := by
    refine (eq_ix2 y).trans (congrArg₂ ix2 (Fin.ext ?_) (Fin.ext hb.symm))
    show (y 0).val = a % 512
    omega
  exact congrArg₂ f et ey

/-- The queries' array after the call. -/
theorem arr0_q (R : Fin 2048) (h : Fin 16) (d : Fin 128) :
    (dat0 V c).arrAt 9 cfg0.N (ix2 R ⟨128 * h.val + d.val, by omega⟩) = (inOf V c).q R h d := by
  have key : (dat0 V c).arrAt 9 cfg0.N = fun y : S2048x2048.Idx => qAt V c (pt0 ((y 0).val / 512) (by
      have : (y 0).val < 2048 := (y 0).isLt; omega)) (ix2 ⟨(y 0).val % 512, Nat.mod_lt _ (by decide)⟩ ⟨(y 1).val, (y 1).isLt⟩) := by
    refine (dat0 V c).arrAt_eq_of_covers 9 _ (by decide +kernel) fun t hf y => ?_
    blk_simp
    rw [after0_9]
    refine at_congr (qAt V c) t y _ _ ?_ ?_ _ _ _
    · blk_simp [idx0 t]
    · blk_simp [idx0 t]
  rw [key]
  refine (qAt_apply V c (pt0 (R.val / 512) (by omega)) ⟨R.val % 512, Nat.mod_lt _ (by decide)⟩ h d).trans
    (congrArg (fun R => (inOf V c).q R h d) (Fin.ext (Nat.div_add_mod R.val 512)))

/-- The values' array after the call. -/
theorem arr0_v (R : Fin 2048) (C : Fin 512) :
    (dat0 V c).arrAt 11 cfg0.N (ix2 R C) = (inOf V c).v R C := by
  have key : (dat0 V c).arrAt 11 cfg0.N = fun y : S2048x512.Idx => vAt V c (pt0 ((y 0).val / 512) (by
      have : (y 0).val < 2048 := (y 0).isLt; omega)) (ix2 ⟨(y 0).val % 512, Nat.mod_lt _ (by decide)⟩ ⟨(y 1).val, (y 1).isLt⟩) := by
    refine (dat0 V c).arrAt_eq_of_covers 11 _ (by decide +kernel) fun t hf y => ?_
    blk_simp
    rw [after0_11]
    refine at_congr (vAt V c) t y _ _ ?_ ?_ _ _ _
    · blk_simp [idx0 t]
    · blk_simp [idx0 t]
  rw [key]
  refine (vAt_apply V c (pt0 (R.val / 512) (by omega)) ⟨R.val % 512, Nat.mod_lt _ (by decide)⟩ C).trans
    (congrArg (fun R => (inOf V c).v R C) (Fin.ext (Nat.div_add_mod R.val 512)))

/-- The gate's array after the call. -/
theorem arr0_g : (dat0 V c).arrAt 12 cfg0.N = (gAt V c (pt0 3 (by decide)) : S8x2048.Idx → EReal) := by
  refine (dat0 V c).arrAt_eq_of_after_last 12 (pt0 3 (by decide)) (by decide +kernel) (gAt V c (pt0 3 (by decide))) fun j => ?_
  blk_simp
  exact congrFun (after0_12 V c _) j

/-- The keys' array after the call. -/
theorem arr0_k (R : Fin 2048) (h : Fin 4) (d : Fin 128) :
    (dat0 V c).arrAt 10 cfg0.N (ix2 R ⟨128 * h.val + d.val, by omega⟩) = (inOf V c).k R h d := by
  have key : (dat0 V c).arrAt 10 cfg0.N = kFull V c := by
    refine (dat0 V c).arrAt_eq_of_after_last 10 (pt0 3 (by decide)) (by decide +kernel) (kFull V c) fun j => ?_
    blk_simp
    exact congrFun (after0_10 V c _) j
  rw [key]
  exact kFull_apply V c R h d

/-- The score the call's last point works out for a key head and a block. -/
theorem gateScore_apply (h : Fin 4) (n : Fin 16) :
    gateScore (qAt V c (pt0 3 (by decide))) (kFull V c) h n = (inOf V c).score h n := by
  unfold gateScore In.score
  refine congrArg₂ (fun (a : Fin 4 → Fin 16 → Fin 128 → EReal) b => scoreOf (qoOf a) b) ?_ ?_
  · funext g r d
    have e : (⟨512 * h.val + 128 * g.val + d.val, by omega⟩ : Fin 2048)
        = ⟨128 * (⟨4 * h.val + g.val, by omega⟩ : Fin 16).val + d.val, by omega⟩ := Fin.ext (by simp only []; omega)
    rw [e]
    refine (qAt_apply V c (pt0 3 (by decide)) ⟨496 + r.val, by omega⟩ ⟨4 * h.val + g.val, by omega⟩ d).trans ?_
    refine congrArg (fun R => (inOf V c).q R _ d) (Fin.ext ?_)
    show 512 * 3 + (496 + r.val) = 2032 + r.val
    omega
  · funext r d
    exact kFull_apply V c ⟨128 * n.val + r.val, by omega⟩ h d

/-- The gate's array at a key head's row, for the blocks whose scores are the greatest. -/
theorem arr0_gate (S : Fin 4 → Finset (Fin 16)) (hs : ∀ h n, ⊥ < (inOf V c).score h n)
    (hS : ∀ h, Top ((inOf V c).score h) 7 (S h)) (h : Fin 4) (j : Fin 2048) :
    (dat0 V c).arrAt 12 cfg0.N (ix2 ⟨h.val, by omega⟩ j) = In.gate S h j := by
  rw [arr0_g]
  have e : gateScore (qAt V c (pt0 3 (by decide))) (kFull V c) h = (inOf V c).score h := funext (gateScore_apply V c h)
  refine (gateOut_apply _ _ h (fun n => ?_) (S h) ?_ j).trans rfl
  · rw [e]; exact hs h n
  · rw [e]; exact hS h

end Cert.Proof.Val
-- ==== Proof.Val.Arr1.lean ====
/-
What the attention call and the output call leave in their result arrays, entry by entry.
-/
module

public import proofs.«01_k».proof.Proof.Val.Arr0
public import proofs.«01_k».proof.Proof.KI.R1
public import proofs.«01_k».proof.Proof.KI.R2
public import Idealize.ShloMosaic.Lib.Pipeline.ValueKit

@[expose] public section

set_option maxRecDepth 16384

noncomputable section

namespace Cert.Proof.Val

open Cert.KernelIdeal Cert.KernelIdeal.Gen Cert.Proof.KI
open Idealize.ShloMosaic Idealize.ShloMosaic.TcCoe
open Idealize.ShloMosaic.Pipeline (Dat Cfg Window)
open scoped BigOperators

variable (V : (c : Dev nD) → (b : Ref sig .tc) → Buf (Elt Ideal) ((c : Thread nD τ).loc b)) (c : Dev nD)

/-- The grid has four points. -/
theorem lt4₁ (t : Fin cfg1.N) : t.val < 4 := Nat.lt_of_lt_of_eq t.isLt (by decide +kernel)
/-- The output grid has four points. -/
theorem lt4₂ (t : Fin cfg2.N) : t.val < 4 := Nat.lt_of_lt_of_eq t.isLt (by decide +kernel)

/-- The attention call's windows at each point. -/
theorem idx1 : ∀ t : Fin cfg1.N, win1_0.index t = ![t.val, 0, 0] ∧ win1_1.index t = ![0, t.val] ∧ win1_2.index t = ![0, t.val]
    ∧ win1_3.index t = ![0, t.val] ∧ win1_4.index t = ![0, t.val] := by decide +kernel

/-- The output call's windows at each point. -/
theorem idx2 : ∀ t : Fin cfg2.N, win2_0.index t = ![t.val, 0] ∧ win2_1.index t = ![0, 0] ∧ win2_2.index t = ![t.val, 0] := by
  decide +kernel

/-- The head's row of the gate. -/
theorem blk1_0 (t : Fin cfg1.N) (j : Fin 2048) :
    iblk1 V c 0 t (ix3 0 0 j) = V c main_call0_v4 (ix3 ⟨t.val, by have := lt4₁ t; omega⟩ 0 j) := by
  blk_ext [iblk1, idx1 t]
/-- The head's four query heads. -/
theorem blk1_1 (t : Fin cfg1.N) (R : Fin 2048) (C : Fin 512) :
    iblk1 V c 1 t (ix2 R C) = V c main_call0_v3_0 (ix2 R ⟨512 * t.val + C.val, by have := lt4₁ t; omega⟩) := by
  blk_ext [iblk1, idx1 t]
/-- The head's keys. -/
theorem blk1_2 (t : Fin cfg1.N) (R : Fin 2048) (C : Fin 128) :
    iblk1 V c 2 t (ix2 R C) = V c main_call0_v3_1 (ix2 R ⟨128 * t.val + C.val, by have := lt4₁ t; omega⟩) := by
  blk_ext [iblk1, idx1 t]
/-- The head's values. -/
theorem blk1_3 (t : Fin cfg1.N) (R : Fin 2048) (C : Fin 128) :
    iblk1 V c 3 t (ix2 R C) = V c main_call0_v3_2 (ix2 R ⟨128 * t.val + C.val, by have := lt4₁ t; omega⟩) := by
  blk_ext [iblk1, idx1 t]
/-- The point's rows of the attention's result. -/
theorem blk2_0 (t : Fin cfg2.N) (r : Fin 512) (C : Fin 2048) :
    iblk2 V c 0 t (ix2 r C) = V c main_call0_v5 (ix2 ⟨512 * t.val + r.val, by have := lt4₂ t; omega⟩ C) := by
  blk_ext [iblk2, idx2 t]
/-- The output weights' block is the whole array. -/
theorem blk2_1 (t : Fin cfg2.N) (r C : Fin 2048) : iblk2 V c 1 t (ix2 r C) = V c main_arg11 (ix2 r C) := by
  blk_ext [iblk2, idx2 t]

/-- The attention's result at row `R`, column `C`, of the arrays it reads. -/
def attOf (R C : Fin 2048) : EReal :=
  attV (fun j => V c main_call0_v4 (ix3 ⟨C.val / 512, by omega⟩ 0 j)) (fun e => V c main_call0_v3_0 (ix2 R ⟨128 * (C.val / 128) + e.val, by omega⟩))
    (fun j e => V c main_call0_v3_1 (ix2 j ⟨128 * (C.val / 512) + e.val, by omega⟩))
    (fun j e => V c main_call0_v3_2 (ix2 j ⟨128 * (C.val / 512) + e.val, by omega⟩)) R ⟨C.val % 128, Nat.mod_lt _ (by decide)⟩

/-- `attV` of equal parts. -/
theorem attV_congr {g g' : Fin 2048 → EReal} {q q' : Fin 128 → EReal} {k k' v v' : Fin 2048 → Fin 128 → EReal} {R R' : Fin 2048}
    {d d' : Fin 128} (hg : ∀ j, g j = g' j) (hq : ∀ e, q e = q' e) (hk : ∀ j e, k j e = k' j e) (hv : ∀ j e, v j e = v' j e)
    (hR : R = R') (hd : d = d') : attV g q k v R d = attV g' q' k' v' R' d' := by
  rw [show g = g' from funext hg, show q = q' from funext hq, show k = k' from funext fun j => funext (hk j),
    show v = v' from funext fun j => funext (hv j), hR, hd]

/-- What one point of the attention call stores, at an index whose array coordinates are `a`, `b`. -/
theorem after1_apply (t : Fin cfg1.N) (y : S2048x512.Idx) (a b : Fin 2048) (ha : a.val = (y 0).val)
    (hb : b.val = t.val * 512 + (y 1).val) :
    out1_4 (iblk1 V c 0 t) (iblk1 V c 1 t) (iblk1 V c 2 t) (iblk1 V c 3 t) y = attOf V c a b := by
  have hy : (y 1).val < 512 := (y 1).isLt
  have ht := lt4₁ t
  rw [show y = ix2 (⟨(y 0).val, (y 0).isLt⟩ : Fin 2048) (⟨(y 1).val, (y 1).isLt⟩ : Fin 512) from eq_ix2 y, out1_apply]
  unfold out1V attOf
  refine attV_congr (fun j => ?_) (fun e => ?_) (fun j e => ?_) (fun j e => ?_) (Fin.ext ha.symm) (Fin.ext ?_)
  · refine (blk1_0 V c t j).trans (congrArg (fun i => V c main_call0_v4 (ix3 i 0 j)) (Fin.ext ?_))
    show t.val = b.val / 512; omega
  · refine (blk1_1 V c t _ _).trans (congrArg₂ (fun i j => V c main_call0_v3_0 (ix2 i j)) (Fin.ext ha.symm) (Fin.ext ?_))
    show 512 * t.val + (128 * ((y 1).val / 128) + e.val) = 128 * (b.val / 128) + e.val; omega
  · refine (blk1_2 V c t _ _).trans (congrArg (fun i => V c main_call0_v3_1 (ix2 j i)) (Fin.ext ?_))
    show 128 * t.val + e.val = 128 * (b.val / 512) + e.val; omega
  · refine (blk1_3 V c t _ _).trans (congrArg (fun i => V c main_call0_v3_2 (ix2 j i)) (Fin.ext ?_))
    show 128 * t.val + e.val = 128 * (b.val / 512) + e.val; omega
  · show (y 1).val % 128 = b.val % 128; omega

/-- The attention's array after the call. -/
theorem arr1 (R C : Fin 2048) : (dat1 V c).arrAt 4 cfg1.N (ix2 R C) = attOf V c R C := by
  have key : (dat1 V c).arrAt 4 cfg1.N = fun y : S2048x2048.Idx => attOf V c ⟨(y 0).val, (y 0).isLt⟩ ⟨(y 1).val, (y 1).isLt⟩ := by
    refine (dat1 V c).arrAt_eq_of_covers 4 _ (by decide +kernel) fun t hf y => ?_
    blk_simp
    rw [after1_4]
    refine after1_apply V c t y _ _ ?_ ?_
    · blk_simp [idx1 t]
    · blk_simp [idx1 t]
  exact congrFun key (ix2 R C)

/-- A row against a column. -/
def dotE (x w : Fin 2048 → EReal) : EReal := ∑ j, x j * w j

/-- The output's result at row `R`, column `C`, of the arrays it reads. -/
def prodOf (R C : Fin 2048) : EReal := dotE (fun j => V c main_call0_v5 (ix2 R j)) fun j => V c main_arg11 (ix2 j C)

/-- The output call's arithmetic at an index. -/
theorem out2_apply (x0 : Vec Ideal S512x2048 .f32) (x1 : Vec Ideal S2048x2048 .f32) (r : Fin 512) (C : Fin 2048) :
    out2_2 x0 x1 (ix2 r C) = ∑ j : Fin 2048, x0 (ix2 r j) * x1 (ix2 j C) := by
  unfold out2_2
  refine (congrFun (View.canon_cons_unit_lit (S := S512x2048) _ _ _ (fun a => by fin_cases a <;> rfl)) _).trans ?_
  rw [View.ld_unit_lit (S := S512x2048) _ x0 (fun a => by fin_cases a <;> rfl),
    View.ld_unit_lit (S := S2048x2048) _ x1 (fun a => by fin_cases a <;> rfl)]
  unfold_payloads
  pointwise

/-- What one point of the output call stores, at an index whose array coordinates are `a`, `b`. -/
theorem after2_apply (t : Fin cfg2.N) (y : S512x2048.Idx) (a b : Fin 2048) (ha : a.val = t.val * 512 + (y 0).val)
    (hb : b.val = (y 1).val) : out2_2 (iblk2 V c 0 t) (iblk2 V c 1 t) y = prodOf V c a b := by
  rw [show y = ix2 (⟨(y 0).val, (y 0).isLt⟩ : Fin 512) (⟨(y 1).val, (y 1).isLt⟩ : Fin 2048) from eq_ix2 y, out2_apply]
  unfold prodOf dotE
  refine Finset.sum_congr rfl fun j _ => congrArg₂ (· * ·) ?_ ?_
  · refine (blk2_0 V c t _ j).trans (congrArg (fun i => V c main_call0_v5 (ix2 i j)) (Fin.ext ?_))
    show 512 * t.val + (y 0).val = a.val; omega
  · exact (blk2_1 V c t j _).trans (congrArg (fun i => V c main_arg11 (ix2 j i)) (Fin.ext hb.symm))

/-- The output's array after the call. -/
theorem arr2 (R C : Fin 2048) : (dat2 V c).arrAt 2 cfg2.N (ix2 R C) = prodOf V c R C := by
  have key : (dat2 V c).arrAt 2 cfg2.N = fun y : S2048x2048.Idx => prodOf V c ⟨(y 0).val, (y 0).isLt⟩ ⟨(y 1).val, (y 1).isLt⟩ := by
    refine (dat2 V c).arrAt_eq_of_covers 2 _ (by decide +kernel) fun t hf y => ?_
    blk_simp
    rw [after2_2]
    refine after2_apply V c t y _ _ ?_ ?_
    · blk_simp [idx2 t]
    · blk_simp [idx2 t]
  exact congrFun key (ix2 R C)

end Cert.Proof.Val
-- ==== Proof.Val.KVal.lean ====
/-
The kernel's result buffer, entry by entry, as the layer's arithmetic on the entries of the arguments.
-/
module

public import proofs.«01_k».proof.Proof.Val.Arr1
public import proofs.«01_k».proof.Proof.KI.Run

@[expose] public section

set_option maxRecDepth 16384

noncomputable section

namespace Cert.Proof.Val

open Cert.KernelIdeal Cert.KernelIdeal.Gen Cert.Proof.KI
open Idealize.ShloMosaic Idealize.ShloMosaic.TcCoe
open Idealize.ShloMosaic.Pipeline (Dat Cfg Window)
open scoped BigOperators

variable (m : (ℓ : Loc nD τ sig) → Buf (Elt Ideal) ℓ) (c : Dev nD)

/-- The arguments' entries at the kernel's buffers. -/
def argK : In where
  x R j := m ((c : Thread nD τ).loc main_arg0) (ix3 0 R j)
  cs R d := m ((c : Thread nD τ).loc main_arg1) (ix3 0 R d)
  sn R d := m ((c : Thread nD τ).loc main_arg2) (ix3 0 R d)
  wq j C := m ((c : Thread nD τ).loc main_arg5) (ix2 j C)
  bq C := m ((c : Thread nD τ).loc main_arg6) (ix1 C)
  wk j C := m ((c : Thread nD τ).loc main_arg7) (ix2 j C)
  bk C := m ((c : Thread nD τ).loc main_arg8) (ix1 C)
  wv j C := m ((c : Thread nD τ).loc main_arg9) (ix2 j C)
  bv C := m ((c : Thread nD τ).loc main_arg10) (ix1 C)
  wo j C := m ((c : Thread nD τ).loc main_arg11) (ix2 j C)

/-- The three reshaped activations. -/
theorem W1_v (A : Dev nD → Valuation τ sig (Elt Ideal)) :
    (∀ R j : Fin 2048, StableHlo.after hostOps0 (A c) (Proc.devRef .tc main_v0) (ix2 R j) = A c (Proc.devRef .tc main_arg0) (ix3 0 R j))
    ∧ (∀ (R : Fin 2048) (d : Fin 128), StableHlo.after hostOps0 (A c) (Proc.devRef .tc main_v1) (ix2 R d) = A c (Proc.devRef .tc main_arg1) (ix3 0 R d))
    ∧ (∀ (R : Fin 2048) (d : Fin 128), StableHlo.after hostOps0 (A c) (Proc.devRef .tc main_v2) (ix2 R d) = A c (Proc.devRef .tc main_arg2) (ix3 0 R d)) := by
  refine ⟨fun R j => ?_, fun R d => ?_, fun R d => ?_⟩
  · after_results_simp; pointwise
  · after_results_simp; pointwise
  · after_results_simp; pointwise

/-- The three reshaped biases. -/
theorem W2_v (A : Dev nD → Valuation τ sig (Elt Ideal)) :
    (∀ j : Fin 2048, StableHlo.after hostOps0_1 (A c) (Proc.devRef .tc main_call0_v0) (ix2 0 j) = A c (Proc.devRef .tc main_arg6) (ix1 j))
    ∧ (∀ j : Fin 512, StableHlo.after hostOps0_1 (A c) (Proc.devRef .tc main_call0_v1) (ix2 0 j) = A c (Proc.devRef .tc main_arg8) (ix1 j))
    ∧ (∀ j : Fin 512, StableHlo.after hostOps0_1 (A c) (Proc.devRef .tc main_call0_v2) (ix2 0 j) = A c (Proc.devRef .tc main_arg10) (ix1 j)) := by
  refine ⟨fun j => ?_, fun j => ?_, fun j => ?_⟩
  · after_results_simp; pointwise
  · after_results_simp; pointwise
  · after_results_simp; pointwise

/-- The reshaped gate. -/
theorem W4_v (A : Dev nD → Valuation τ sig (Elt Ideal)) (g : Fin 8) (j : Fin 2048) :
    StableHlo.after hostOps1 (A c) (Proc.devRef .tc main_call0_v4) (ix3 g 0 j) = A c (Proc.devRef .tc main_call0_v3_3) (ix2 g j) := by
  after_results_simp; pointwise

/-- The result with its leading axis. -/
theorem W7_v (A : Dev nD → Valuation τ sig (Elt Ideal)) (R C : Fin 2048) :
    StableHlo.after hostOps3 (A c) (Proc.devRef .tc main_v4) (ix3 0 R C) = A c (Proc.devRef .tc main_v3) (ix2 R C) := by
  after_results_simp; pointwise

/-- An argument is as launched before the projections. -/
theorem E0_arg (a : Ref sig .tc) (ha : a ∈ argRefs) : E0 m c a = m ((c : Thread nD τ).loc a) := W2_args m c a ha

/-- The projections read the arguments' entries. -/
theorem inOf_E0 : inOf (E0 m) c = argK m c := by
  obtain ⟨h0, h1, h2⟩ := W1_v c (W0 m)
  obtain ⟨b0, b1, b2⟩ := W2_v c (W1 m)
  unfold inOf argK
  congr 1
  · funext R j
    exact (congrFun (W2_of m c main_v0 (by decide)) _).trans (h0 R j)
  · funext R j
    exact (congrFun (W2_of m c main_v1 (by decide)) _).trans (h1 R j)
  · funext R j
    exact (congrFun (W2_of m c main_v2 (by decide)) _).trans (h2 R j)
  · funext C; exact (b0 C).trans (congrFun (W1_args m c main_arg6 (by decide)) _)
  · funext C; exact (b1 C).trans (congrFun (W1_args m c main_arg8 (by decide)) _)
  · funext C; exact (b2 C).trans (congrFun (W1_args m c main_arg10 (by decide)) _)

/-- The kernel's result buffer: the layer's arithmetic, for the blocks the scores choose. -/
theorem kernel_value (S : Fin 4 → Finset (Fin 16)) (hs : ∀ h n, ⊥ < (argK m c).score h n)
    (hS : ∀ h, Top ((argK m c).score h) 7 (S h)) (R C : Fin 2048) :
    W7 m c (Proc.devRef .tc main_v4) (ix3 0 R C) = (argK m c).out S R C := by
  refine (W7_v c (W6 m) R C).trans ?_
  refine (congrFun (W6_arr m c 2) (ix2 R C)).trans ?_
  refine (arr2 (E2 m) c R C).trans ?_
  show dotE _ _ = dotE (fun j => (argK m c).att S R j) fun j => (argK m c).wo j C
  refine congrArg₂ dotE (funext fun j => ?_) (funext fun j => ?_)
  · refine (congrFun (W5_arr m c 4) (ix2 R j)).trans ?_
    refine (arr1 (E1 m) c R j).trans ?_
    unfold attOf In.att
    refine attV_congr (fun i => ?_) (fun e => ?_) (fun i e => ?_) (fun i e => ?_) rfl rfl
    · refine (W4_v c (W3 m) _ i).trans ?_
      refine (congrFun (W3_arr m c 12) _).trans ?_
      rw [← inOf_E0] at hs hS
      exact arr0_gate (E0 m) c S hs hS ⟨j.val / 512, by omega⟩ i
    · refine (congrFun (W4_of m c main_call0_v3_0 (by decide)) _).trans ?_
      refine (congrFun (W3_arr m c 9) _).trans ?_
      rw [← inOf_E0]
      exact arr0_q (E0 m) c R ⟨j.val / 128, by omega⟩ e
    · refine (congrFun (W4_of m c main_call0_v3_1 (by decide)) _).trans ?_
      refine (congrFun (W3_arr m c 10) _).trans ?_
      rw [← inOf_E0]
      exact arr0_k (E0 m) c i ⟨j.val / 512, by omega⟩ e
    · refine (congrFun (W4_of m c main_call0_v3_2 (by decide)) _).trans ?_
      refine (congrFun (W3_arr m c 11) _).trans ?_
      rw [← inOf_E0]
      exact arr0_v (E0 m) c i _
  · exact congrFun (((W5_of m c main_arg11 (by decide)).trans (W4_args m c main_arg11 (by decide)))) _

end Cert.Proof.Val
-- ==== Proof.Val.Rl.lean ====
/-
Extended reals that are reals: what keeps them so, and the softmax over the allowed places as a mean by the exponentials' weights.
-/
module

public import proofs.«01_k».proof.Proof.Val.Spec

@[expose] public section

noncomputable section

namespace Cert.Proof.Val

open Idealize.ShloMosaic
open scoped BigOperators

/-- An extended real that is a real. -/
def Rl (x : EReal) : Prop := ∃ r : ℝ, x = (r : EReal)

namespace Rl

/-- A sum of two reals is real. -/
theorem add {x y : EReal} : Rl x → Rl y → Rl (x + y) := by
  rintro ⟨a, rfl⟩ ⟨b, rfl⟩
  exact ⟨a + b, (EReal.coe_add a b).symm⟩

/-- A product of two reals is real. -/
theorem mul {x y : EReal} : Rl x → Rl y → Rl (x * y) := by
  rintro ⟨a, rfl⟩ ⟨b, rfl⟩
  exact ⟨a * b, (EReal.coe_mul a b).symm⟩

/-- A real taken from zero is real. -/
theorem zero_sub {x : EReal} : Rl x → Rl (0 - x) := by
  rintro ⟨a, rfl⟩
  exact ⟨0 - a, by simp⟩

/-- A real is above negative infinity. -/
theorem bot_lt {x : EReal} : Rl x → ⊥ < x := by
  rintro ⟨a, rfl⟩
  exact EReal.bot_lt_coe a

/-- A finite sum of reals is real. -/
theorem sum {ι : Type*} (s : Finset ι) {f : ι → EReal} (h : ∀ i, Rl (f i)) : Rl (∑ i ∈ s, f i) := by
  classical
  induction s using Finset.induction_on with
  | empty => exact ⟨0, by simp⟩
  | insert a s ha ih => rw [Finset.sum_insert ha]; exact (h a).add ih

/-- A maximum of reals over all of a nonempty type, begun at negative infinity. -/
theorem fold_max {n : ℕ} (f : Fin (n + 1) → EReal) (h : ∀ i, Rl (f i)) : Rl (Finset.univ.fold max ⊥ f) := by
  have hle : ∀ s : Finset (Fin (n + 1)), s.fold max ⊥ f = ⊥ ∨ Rl (s.fold max ⊥ f) := by
    intro s
    induction s using Finset.induction_on with
    | empty => left; simp
    | insert a s ha ih =>
      right
      rw [Finset.fold_insert ha]
      rcases ih with e | e
      · rw [e, max_bot_right]; exact h a
      · rcases max_choice (f a) (s.fold max ⊥ f) with e' | e' <;> rw [e']
        · exact h a
        · exact e
  refine (hle Finset.univ).resolve_left fun e => ?_
  have : f 0 ≤ Finset.univ.fold max ⊥ f := (Finset.le_fold_max _).mpr (Or.inr ⟨0, Finset.mem_univ _, le_rfl⟩)
  rw [e] at this
  exact absurd (h 0).bot_lt (not_lt.mpr this)

/-- A real divided by a nonzero real is real. -/
theorem div_coe {x : EReal} {r : ℝ} (hr : r ≠ 0) (h : Rl x) : Rl (Ideal.div x (r : EReal)) := by
  rw [Ideal.div_coe hr]
  exact h.mul ⟨_, rfl⟩

end Rl

/-- A sum of reals, summed as reals. -/
theorem coe_sum {n : ℕ} (f : Fin n → ℝ) : ∑ j, (f j : EReal) = ((∑ j, f j : ℝ) : EReal) := by
  induction n with
  | zero => simp
  | succ n ih => rw [Fin.sum_univ_succ, Fin.sum_univ_succ, ih, EReal.coe_add]

/-- A nonnegative real goes into a sum of extended reals. -/
theorem sum_mul_coe {n : ℕ} {c : ℝ} (hc : 0 ≤ c) (f : Fin n → EReal) : (∑ j, f j) * (c : EReal) = ∑ j, f j * (c : EReal) := by
  induction n with
  | zero => simp
  | succ n ih =>
    rw [Fin.sum_univ_succ, Fin.sum_univ_succ, ← ih,
      EReal.right_distrib_of_nonneg_of_ne_top (EReal.coe_nonneg.mpr hc) (EReal.coe_ne_top c)]

/-- The softmax over the allowed places, applied to values, is the mean of the values by the weights of the exponentials. -/
theorem softmax_mean {n : ℕ} (s : Fin n → ℝ) (v : Fin n → EReal) (A : Fin n → Prop) [DecidablePred A] (i : Fin n) (hi : A i) :
    ∑ j, Ideal.div (Ideal.exp ((if A j then (s j : EReal) else ⊥) - max ⊥ (Finset.univ.fold max ⊥ fun k => if A k then (s k : EReal) else ⊥)))
        (∑ l, Ideal.exp ((if A l then (s l : EReal) else ⊥) - max ⊥ (Finset.univ.fold max ⊥ fun k => if A k then (s k : EReal) else ⊥))) * v j
      = Ideal.div (∑ j, Ideal.exp (s j) * (if A j then 1 else 0) * v j) (∑ j, Ideal.exp (s j) * (if A j then 1 else 0)) := by
  obtain ⟨m, hm⟩ : Rl (max ⊥ (Finset.univ.fold max ⊥ fun k => if A k then (s k : EReal) else ⊥)) := by
    rw [max_bot_left]
    have hle : ∀ t : Finset (Fin n), t.fold max ⊥ (fun k => if A k then (s k : EReal) else ⊥) = ⊥
        ∨ Rl (t.fold max ⊥ fun k => if A k then (s k : EReal) else ⊥) := by
      intro t
      induction t using Finset.induction_on with
      | empty => left; simp
      | insert a t ha ih =>
        rw [Finset.fold_insert ha]
        by_cases hA : A a
        · right
          rw [if_pos hA]
          rcases ih with e | e
          · rw [e, max_bot_right]; exact ⟨_, rfl⟩
          · rcases max_choice (s a : EReal) (t.fold max ⊥ fun k => if A k then (s k : EReal) else ⊥) with e' | e' <;> rw [e']
            · exact ⟨_, rfl⟩
            · exact e
        · rw [if_neg hA, max_bot_left]; exact ih
    refine (hle Finset.univ).resolve_left fun e => ?_
    have : (s i : EReal) ≤ Finset.univ.fold max ⊥ (fun k => if A k then (s k : EReal) else ⊥) :=
      (Finset.le_fold_max _).mpr (Or.inr ⟨i, Finset.mem_univ _, by rw [if_pos hi]⟩)
    rw [e] at this
    exact absurd (EReal.bot_lt_coe (s i)) (not_lt.mpr this)
  rw [hm]
  have hE : ∀ j, Ideal.exp ((if A j then (s j : EReal) else ⊥) - (m : EReal)) = (((if A j then Real.exp (s j) else 0) * Real.exp (-m) : ℝ) : EReal) := by
    intro j
    by_cases h : A j
    · rw [if_pos h, if_pos h, ← EReal.coe_sub, Ideal.exp_coe, sub_eq_add_neg, Real.exp_add]
    · rw [if_neg h, if_neg h, EReal.bot_sub, Ideal.exp_bot, zero_mul, EReal.coe_zero]
  have hw : ∀ j, Ideal.exp (s j) * (if A j then 1 else 0) = ((if A j then Real.exp (s j) else 0 : ℝ) : EReal) := by
    intro j
    by_cases h : A j
    · rw [if_pos h, if_pos h, mul_one, Ideal.exp_coe]
    · rw [if_neg h, if_neg h, mul_zero, EReal.coe_zero]
  simp only [hE, hw]
  generalize hwj : (fun j => if A j then Real.exp (s j) else (0 : ℝ)) = w
  have hww : ∀ j, (if A j then Real.exp (s j) else (0 : ℝ)) = w j := fun j => congrFun hwj j
  simp only [hww]
  have w0 : ∀ j, 0 ≤ w j := fun j => by rw [← hww]; split <;> [exact (Real.exp_pos _).le; exact le_rfl]
  have wi : 0 < w i := by rw [← hww, if_pos hi]; exact Real.exp_pos _
  have hpos : 0 < ∑ j, w j := Finset.sum_pos' (fun j _ => w0 j) ⟨i, Finset.mem_univ _, wi⟩
  have hexp := Real.exp_pos (-m)
  rw [coe_sum, coe_sum, ← Finset.sum_mul, Ideal.div_coe hpos.ne', sum_mul_coe (one_div_nonneg.mpr hpos.le)]
  refine Finset.sum_congr rfl fun j _ => ?_
  rw [Ideal.div_coe (mul_pos hpos hexp).ne', ← EReal.coe_mul, mul_right_comm (w j : EReal), ← EReal.coe_mul]
  have := hexp.ne'
  have := hpos.ne'
  refine congrArg (fun r : ℝ => (r : EReal) * v j) ?_
  field_simp

end Cert.Proof.Val
-- ==== Proof.Val.Ref1.lean ====
/-
The reference's projections, rotations and block scores, entry by entry, as the layer's arithmetic on the arguments' entries.
-/
module

public import proofs.«01_k».proof.Proof.Val.Spec
public import proofs.«01_k».proof.Proof.Val.Score
public import proofs.«01_k».proof.Proof.Gen.ReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.Val

open Cert.ReferenceIdeal Cert.ReferenceIdeal.Gen Cert.ReferenceIdeal.Value
open Idealize.ShloMosaic Idealize.ShloMosaic.TcCoe
open scoped BigOperators

variable (V0 : Valuation τ sig (Elt Ideal))

/-- The arguments' entries at the reference's buffers. -/
def argR : In where
  x R j := V0 (Proc.devRef .tc main_arg0) (ix3 0 R j)
  cs R d := V0 (Proc.devRef .tc main_arg1) (ix3 0 R d)
  sn R d := V0 (Proc.devRef .tc main_arg2) (ix3 0 R d)
  wq j C := V0 (Proc.devRef .tc main_arg5) (ix2 j C)
  bq C := V0 (Proc.devRef .tc main_arg6) (ix1 C)
  wk j C := V0 (Proc.devRef .tc main_arg7) (ix2 j C)
  bk C := V0 (Proc.devRef .tc main_arg8) (ix1 C)
  wv j C := V0 (Proc.devRef .tc main_arg9) (ix2 j C)
  bv C := V0 (Proc.devRef .tc main_arg10) (ix1 C)
  wo j C := V0 (Proc.devRef .tc main_arg11) (ix2 j C)

/-- The query projection by heads. -/
theorem v5_apply (h : Fin 16) (R : Fin 2048) (d : Fin 128) :
    res_main_v5 V0 (ix4 0 h R d) = linAt ((argR V0).x R) (fun j => (argR V0).wq j ⟨128 * h.val + d.val, by omega⟩)
      ((argR V0).bq ⟨128 * h.val + d.val, by omega⟩) := by
  unfold res_main_v5 linAt argR
  clean_types
  pointwise
  simp only [Nat.mul_comm h.val 128]

/-- The key projection by heads. -/
theorem v11_apply (h : Fin 4) (R : Fin 2048) (d : Fin 128) :
    res_main_v11 V0 (ix4 0 h R d) = linAt ((argR V0).x R) (fun j => (argR V0).wk j ⟨128 * h.val + d.val, by omega⟩)
      ((argR V0).bk ⟨128 * h.val + d.val, by omega⟩) := by
  unfold res_main_v11 linAt argR
  clean_types
  pointwise
  simp only [Nat.mul_comm h.val 128]

/-- The rotated queries. -/
theorem v28_apply (h : Fin 16) (R : Fin 2048) (d : Fin 128) : res_main_v28 V0 (ix4 0 h R d) = (argR V0).q R h d := by
  have e : res_main_v28 V0 (ix4 0 h R d) = ropeAt (fun e => res_main_v5 V0 (ix4 0 h R e)) ((argR V0).cs R) ((argR V0).sn R) d := by
    unfold res_main_v28 res_main_v18 res_main_v19 argR
    clean_types
    pointwise [ropeAt, zero_sub]
  rw [e]
  exact ropeAt_congr d (funext fun e => v5_apply V0 h R e) rfl rfl

/-- The rotated keys. -/
theorem v37_apply (h : Fin 4) (R : Fin 2048) (d : Fin 128) : res_main_v37 V0 (ix4 0 h R d) = (argR V0).k R h d := by
  have e : res_main_v37 V0 (ix4 0 h R d) = ropeAt (fun e => res_main_v11 V0 (ix4 0 h R e)) ((argR V0).cs R) ((argR V0).sn R) d := by
    unfold res_main_v37 res_main_v18 res_main_v19 argR
    clean_types
    pointwise [ropeAt, zero_sub]
  rw [e]
  exact ropeAt_congr d (funext fun e => v11_apply V0 h R e) rfl rfl

/-- The keys by blocks. -/
theorem v38_apply (h : Fin 4) (n : Fin 16) (r d : Fin 128) :
    res_main_v38 V0 (ix5 0 h n r d) = (argR V0).k ⟨128 * n.val + r.val, by omega⟩ h d := by
  refine Eq.trans ?_ (v37_apply V0 h ⟨128 * n.val + r.val, by omega⟩ d)
  unfold res_main_v38
  clean_types
  pointwise
  simp only [Nat.mul_comm n.val 128]

/-- The mean query of a key head. -/
theorem v50_apply (h : Fin 4) (d : Fin 128) : res_main_v50 V0 (ix3 0 h d)
    = qoOf (fun g r d => (argR V0).q ⟨2032 + r.val, by omega⟩ ⟨4 * h.val + g.val, by omega⟩ d) d := by
  have e : res_main_v50 V0 (ix3 0 h d)
      = qoOf (fun g r d => res_main_v28 V0 (ix4 0 ⟨4 * h.val + g.val, by omega⟩ ⟨2032 + r.val, by omega⟩ d)) d := by
    unfold res_main_v50
    clean_types
    pointwise [qoOf, Ideal.ofBits_zero_f32, zero_add]
    simp only [Nat.mul_comm h.val 4]
  rw [e]
  unfold qoOf
  simp only [v28_apply]

/-- The block scores. -/
theorem v57_apply (h : Fin 4) (n : Fin 16) : res_main_v57 V0 (ix3 0 h n) = (argR V0).score h n := by
  have e : res_main_v57 V0 (ix3 0 h n) = scoreOf (fun d => res_main_v50 V0 (ix3 0 h d)) fun r d => res_main_v38 V0 (ix5 0 h n r d) := by
    unfold res_main_v57
    clean_types
    pointwise [scoreOf, Ideal.ofBits_zero_f32, zero_add]
  rw [e]
  exact congrArg₂ scoreOf (funext fun d => v50_apply V0 h d) (funext fun r => funext fun d => v38_apply V0 h n r d)

end Cert.Proof.Val
-- ==== Proof.Val.Ref2.lean ====
/-
The reference's choice of key blocks and its mask, entry by entry.
-/
module

public import proofs.«01_k».proof.Proof.Val.Ref1
public import Idealize.ShloMosaic.Lib.SortFacts
public import Idealize.ShloMosaic.Lib.Routing.OpsSet
public import Idealize.ShloMosaic.Lib.Routing.OpsPair

@[expose] public section

set_option maxRecDepth 16384

noncomputable section

namespace Cert.Proof.Val

open Cert.ReferenceIdeal Cert.ReferenceIdeal.Gen Cert.ReferenceIdeal.Value
open Idealize.ShloMosaic Idealize.ShloMosaic.TcCoe
open scoped BigOperators

/-! ## A stable sort by the scores, greatest first -/

/-- Ahead, for places in order: what an insertion keeps. -/
theorem insert_ahead {n : ℕ} (s : Fin n → EReal) (a : Fin n) : ∀ l : List (Fin n), l.Pairwise (Ahead s) → (∀ b ∈ l, a < b) →
    (insertBefore (fun x y => decide (s y < s x)) a l).Pairwise (Ahead s)
  | [], _, _ => List.pairwise_singleton _ _
  | b :: l, hl, ha => by
    have hb := List.pairwise_cons.mp hl
    unfold insertBefore
    split
    · rename_i h
      have h' : s a < s b := by simpa using h
      refine List.pairwise_cons.mpr ⟨fun c hc => ?_, insert_ahead s a l hb.2 fun x hx => ha x (List.mem_cons_of_mem _ hx)⟩
      rcases List.mem_cons.mp ((perm_insertBefore _ a l).mem_iff.mp hc) with rfl | hc'
      · exact Or.inl h'
      · exact hb.1 c hc'
    · rename_i h
      have h' : s b ≤ s a := by simpa using h
      refine List.pairwise_cons.mpr ⟨fun c hc => ?_, hl⟩
      have hc2 := ha c hc
      have hcb : s c ≤ s b := by
        rcases List.mem_cons.mp hc with rfl | hc'
        · exact le_rfl
        · rcases hb.1 c hc' with h1 | h1
          · exact h1.le
          · exact h1.1.le
      rcases (hcb.trans h').lt_or_eq with h1 | h1
      · exact Or.inl h1
      · exact Or.inr ⟨h1, hc2⟩

/-- The stable sort puts each place ahead of those after it. -/
theorem sort_ahead {n : ℕ} (s : Fin n → EReal) : ∀ l : List (Fin n), l.Pairwise (· < ·) →
    (stableSort (fun x y => decide (s y < s x)) l).Pairwise (Ahead s)
  | [], _ => List.Pairwise.nil
  | a :: l, hl => by
    have h := List.pairwise_cons.mp hl
    exact insert_ahead s a _ (sort_ahead s l h.2) fun b hb => h.1 b ((perm_stableSort _ l).mem_iff.mp hb)

/-- The place the sort by scores takes its `p`-th from. -/
def srt {n : ℕ} (s : Fin n → EReal) : Fin n → Fin n := sortedFrom fun x y => decide (s y < s x)

/-- The sorted order puts an index that is ahead earlier. -/
theorem srt_ahead {n : ℕ} (s : Fin n → EReal) (i j : Fin n) (h : i < j) : Ahead s (srt s i) (srt s j) := by
  have hp : ∀ a b : Fin (sortPositions n fun x y => decide (s y < s x)).length, a < b → Ahead s (List.get _ a) (List.get _ b) :=
    List.pairwise_iff_get.mp (sort_ahead s (List.finRange n) (List.pairwise_lt_finRange n))
  exact hp _ _ h

/-- The sorted order names no index twice. -/
theorem srt_inj {n : ℕ} (s : Fin n → EReal) : Function.Injective (srt s) := sortedFrom_injective _
/-- The sorted order names every index. -/
theorem srt_surj {n : ℕ} (s : Fin n → EReal) : Function.Surjective (srt s) := sortedFrom_surjective _

/-- The first seven of sixteen. -/
def top7 (s : Fin 16 → EReal) : Finset (Fin 16) := Finset.univ.image fun p : Fin 7 => srt s ⟨p.val, by omega⟩

/-- The first seven of the sorted order are the seven that come ahead of the rest. -/
theorem top7_top (s : Fin 16 → EReal) : Top s 7 (top7 s) := by
  refine ⟨?_, fun i hi j hj => ?_⟩
  · refine (Finset.card_image_of_injective _ fun p q h => ?_).trans (Fintype.card_fin 7)
    exact Fin.ext (Fin.mk.inj (srt_inj s h))
  · obtain ⟨p, -, rfl⟩ := Finset.mem_image.mp hi
    obtain ⟨q, rfl⟩ := srt_surj s j
    refine srt_ahead s _ q ?_
    by_contra h
    have : q.val ≤ p.val := by simpa [Fin.lt_def] using h
    exact hj (Finset.mem_image.mpr ⟨⟨q.val, by omega⟩, Finset.mem_univ _, rfl⟩)

/-- A sort of pairs at an index: its second component. -/
theorem sort2_snd {s : Shape} (d : ℕ) (hd : d < s.rank) {α β : Type} (cmp : α × β → α × β → BitVec 1) (x : s.Idx → α) (y : s.Idx → β)
    (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The greatest seven along the last axis: their places. -/
theorem topK_apply (x : S1x4x16.Idx → EReal) (h : Fin 4) (p : Fin 7) :
    (Host.topK S1x4x7 2 (FloatOps.cmpfTotal (F := Ideal) (φ := .f32) .gt) x sliceFits_S1x4x16_S1x4x7).2 (ix3 0 h p)
      = BitVec.ofNat 32 (srt (fun n => x (ix3 0 h n)) ⟨p.val, by omega⟩).val := by
  have al (q k : Fin 16) : Shape.Idx.along (s := S1x4x16) (ix3 0 h q) 2 k = ix3 0 h k := by
    funext b; fin_cases b <;> rfl
  have hB : (fun k k' : Fin 16 => FloatOps.cmpfTotal (F := Ideal) (φ := .f32) .gt (x (ix3 0 h k)) (x (ix3 0 h k')) == 1#1)
      = fun k k' => decide (x (ix3 0 h k') < x (ix3 0 h k)) := by
    funext k k'
    rw [Ideal.cmpfTotal_def]
    by_cases hh : x (ix3 0 h k') < x (ix3 0 h k) <;> simp [Ideal.cmp, CmpDirection.ordered, hh]
  unfold srt
  rw [← hB]
  have e : (fun a => ⟨0 + ((ix3 0 h p : S1x4x7.Idx) (a.cast sliceFits_S1x4x16_S1x4x7.1.symm)).val, Nat.lt_of_lt_of_le
      (Nat.add_lt_add_left (Fin.isLt _) _) (sliceFits_S1x4x16_S1x4x7.2 a)⟩ : S1x4x16.Idx) = ix3 0 h (⟨p.val, by omega⟩ : Fin 16) := by
    funext a
    match a with
    | ⟨0, _⟩ => rfl
    | ⟨1, _⟩ => exact Fin.ext (Nat.zero_add _)
    | ⟨2, _⟩ => exact Fin.ext (Nat.zero_add _)
  have key (J : S1x4x16.Idx) (q : Fin 16) (hJ : J = ix3 0 h q) :
      (Host.sort2 S1x4x16 2 (fun l r => FloatOps.cmpfTotal (F := Ideal) (φ := .f32) .gt l.1 r.1) x
        (fun i => if hd : 2 < S1x4x16.rank then iotaInDim S1x4x16 32 ⟨2, hd⟩ i else 0#32)).2 J
      = BitVec.ofNat 32 (sortedFrom (fun k k' : Fin 16 => FloatOps.cmpfTotal (F := Ideal) (φ := .f32) .gt (x (ix3 0 h k)) (x (ix3 0 h k')) == 1#1) q).val := by
    subst hJ
    refine (sort2_snd (s := S1x4x16) 2 (by decide) _ _ _ _).trans ?_
    have sub (B B' : Fin 16 → Fin 16 → Bool) (hB : B = B') : (if hd : 2 < S1x4x16.rank then iotaInDim S1x4x16 32 ⟨2, hd⟩
        (Shape.Idx.along (s := S1x4x16) (ix3 0 h q) 2 (sortedFrom B q)) else 0#32) = BitVec.ofNat 32 (sortedFrom B' q).val := by
      subst hB
      have one (r : Fin 16) : (if hd : 2 < S1x4x16.rank then iotaInDim S1x4x16 32 ⟨2, hd⟩ (Shape.Idx.along (s := S1x4x16) (ix3 0 h q) 2 r)
          else 0#32) = BitVec.ofNat 32 r.val := by
        rw [dif_pos (by decide), al]
        rfl
      exact one _
    exact sub _ _ (funext fun k => funext fun k' => congrArg₂ (fun a b => FloatOps.cmpfTotal (F := Ideal) (φ := .f32) .gt (x a) (x b) == 1#1) (al q k) (al q k'))
  exact key _ _ e

variable (V0 : Valuation τ sig (Elt Ideal))

/-- The index words of the scatter. -/
def idxR : IVec S1x4x7x3 32 :=
  (concatenate S1x4x7x3 3 [⟨S1x4x7x1, ((broadcastInDim S1x4x7x1 ![0, 1, 2] bcast_S1x4x7_S1x4x7x1_0_1_2 (broadcastInDim S1x4x7 ![0, 1, 2] bcast_S1x1x1_S1x4x7_0_1_2 (select (cmpi .slt (res_main_v60 V0) (broadcastInDim S1x1x1 ![] bcast_S_S1x1x1 (constantI S_ 32 0#32))) (addi (res_main_v60 V0) (broadcastInDim S1x1x1 ![] bcast_S_S1x1x1 (constantI S_ 32 1#32))) (res_main_v60 V0)))) : (⟨S1x4x7x1, .i32⟩ : BufTy).Contents (Elt Ideal))⟩, ⟨S1x4x7x1, ((broadcastInDim S1x4x7x1 ![0, 1, 2] bcast_S1x4x7_S1x4x7x1_0_1_2 (broadcastInDim S1x4x7 ![0, 1, 2] bcast_S1x4x1_S1x4x7_0_1_2 (select (cmpi .slt (res_main_v62 V0) (broadcastInDim S1x4x1 ![] bcast_S_S1x4x1 (constantI S_ 32 0#32))) (addi (res_main_v62 V0) (broadcastInDim S1x4x1 ![] bcast_S_S1x4x1 (constantI S_ 32 4#32))) (res_main_v62 V0)))) : (⟨S1x4x7x1, .i32⟩ : BufTy).Contents (Elt Ideal))⟩, ⟨S1x4x7x1, ((broadcastInDim S1x4x7x1 ![0, 1, 2] bcast_S1x4x7_S1x4x7x1_0_1_2 (select (cmpi .slt (res_main_indices V0) (broadcastInDim S1x4x7 ![] bcast_S_S1x4x7 (constantI S_ 32 0#32))) (addi (res_main_indices V0) (broadcastInDim S1x4x7 ![] bcast_S_S1x4x7 (constantI S_ 32 16#32))) (res_main_indices V0))) : (⟨S1x4x7x1, .i32⟩ : BufTy).Contents (Elt Ideal))⟩] concatenates_S1x4x7x1_S1x4x7x1_S1x4x7x1_S1x4x7x3_d3 : (⟨S1x4x7x3, .i32⟩ : BufTy).Contents (Elt Ideal))

/-- The chosen blocks' flags. -/
def selR : IVec S1x4x16 1 :=
  Host.scatter scatter_S1x4x16_S1x4x7x3_S1x4x7_n_012_012_3 (fun _ b => b) (broadcastInDim S1x4x16 ![] bcast_S_S1x4x16 (constantI S_ 1 0#1)) (idxR V0) (broadcastInDim S1x4x7 ![] bcast_S_S1x4x7 (constantI S_ 1 1#1))

/-- The masked scores, of the flags. -/
def v122Of (sel : IVec S1x4x16 1) : (Proc.devRef .tc main_v122 : DevRef τ sig).ty.Contents (Elt Ideal) :=
  select (shapeCast _ (broadcastInDim S1x4x4x2048x2048 ![0, 1, 3, 4] bcast_S1x4x2048x2048_S1x4x4x2048x2048_0_1_3_4 (andi (andi (broadcastInDim S1x4x2048x2048 ![0, 1, 2, 3] bcast_S1x1x2048x2048_S1x4x2048x2048_0_1_2_3 (broadcastInDim S1x1x2048x2048 ![2, 3] bcast_S2048x2048_S1x1x2048x2048_2_3 (cmpi .sle (broadcastInDim S2048x2048 ![0, 1] bcast_S1x2048_S2048x2048_0_1 (res_main_v91 V0)) (broadcastInDim S2048x2048 ![0, 1] bcast_S2048x1_S2048x2048_0_1 (res_main_v89 V0))))) (ori (broadcastInDim S1x4x2048x2048 ![0, 1, 2, 3] bcast_S1x4x1x2048_S1x4x2048x2048_0_1_2_3 (broadcastInDim S1x4x1x2048 ![0, 1, 3] bcast_S1x4x2048_S1x4x1x2048_0_1_3 (shapeCast _ (broadcastInDim S1x4x16x128 ![0, 1, 2] bcast_S1x4x16_S1x4x16x128_0_1_2 sel) shapeCasts_S1x4x16x128_S1x4x2048))) (broadcastInDim S1x4x2048x2048 ![0, 1, 2, 3] bcast_S1x1x2048x2048_S1x4x2048x2048_0_1_2_3 (broadcastInDim S1x1x2048x2048 ![2, 3] bcast_S2048x2048_S1x1x2048x2048_2_3 (cmpi .sgt (broadcastInDim S2048x2048 ![0, 1] bcast_S1x2048_S2048x2048_0_1 (res_main_v91 V0)) (broadcastInDim S2048x2048 ![0, 1] bcast_S2048x1_S2048x2048_0_1 (subi (res_main_v89 V0) (broadcastInDim S2048x1 ![] bcast_S_S2048x1 (constantI S_ 32 16#32))))))))) (broadcastInDim S1x4x2048x2048 ![0, 1, 2, 3] bcast_S1x1x1x2048_S1x4x2048x2048_0_1_2_3 (cmpi .sgt (broadcastInDim S1x1x1x2048 ![0, 3] bcast_S1x2048_S1x1x1x2048_0_3 (V0 (Proc.devRef .tc main_arg3))) (broadcastInDim S1x1x1x2048 ![] bcast_S_S1x1x1x2048 (constantI S_ 32 0#32)))))) shapeCasts_S1x4x4x2048x2048_S1x16x2048x2048) (mulf (Host.dotGeneral (φ₂ := .f32) dot_S1x16x2048x128_S1x16x2048x128_S1x16x2048x2048_3_3_2_2_01_01 none (res_main_v28 V0) (shapeCast _ (broadcastInDim S1x4x4x2048x128 ![0, 1, 3, 4] bcast_S1x4x2048x128_S1x4x4x2048x128_0_1_3_4 (res_main_v37 V0)) shapeCasts_S1x4x4x2048x128_S1x16x2048x128)) (broadcastInDim S1x16x2048x2048 ![] bcast_S_S1x16x2048x2048 (constant S_ .f32 0x3DB504F3#32))) (broadcastInDim S1x16x2048x2048 ![] bcast_S_S1x16x2048x2048 (constant (F := Ideal) S_ .f32 0xFF800000#32))

/-- The reference's masked scores, its mark of the chosen blocks given a name. -/
theorem v122_eq : res_main_v122 V0 = v122Of V0 (selR V0) := rfl

/-- The chosen blocks. -/
def chosen (h : Fin 4) : Finset (Fin 16) := top7 ((argR V0).score h)

/-- The chosen blocks of a head are the seven that come ahead of the rest. -/
theorem chosen_top (h : Fin 4) : Top ((argR V0).score h) 7 (chosen V0 h) := top7_top _

/-- The places the greatest scores come from. -/
theorem indices_apply (h : Fin 4) (p : Fin 7) :
    res_main_indices V0 (ix3 0 h p) = BitVec.ofNat 32 (srt ((argR V0).score h) ⟨p.val, by omega⟩).val := by
  unfold res_main_indices
  refine (topK_apply _ h p).trans ?_
  rw [show (fun n => res_main_v57 V0 (ix3 0 h n)) = (argR V0).score h from funext (v57_apply V0 h)]

/-- A small word is not negative. -/
theorem wrap16 (n : Fin 16) (a : BitVec 32) :
    Scalar.select (IntOp.cmpi .slt (BitVec.ofNat 32 n.val) 0#32) a (BitVec.ofNat 32 n.val) = BitVec.ofNat 32 n.val :=
  Routing.wrap_of_lt _ _ (by rw [BitVec.toNat_ofNat]; omega)

/-- The reference's index array: a place holds batch zero, its key head and the block chosen there. -/
theorem idxR_apply (h : Fin 4) (p : Fin 7) :
    idxR V0 (ix4 0 h p 0) = 0#32 ∧ idxR V0 (ix4 0 h p 1) = BitVec.ofNat 32 h.val
      ∧ idxR V0 (ix4 0 h p 2) = BitVec.ofNat 32 (srt ((argR V0).score h) ⟨p.val, by omega⟩).val := by
  refine ⟨?_, ?_, ?_⟩
  · unfold idxR res_main_v60
    pointwise
    rfl
  · unfold idxR res_main_v62
    pointwise
    exact Routing.wrap_of_lt _ _ (by rw [BitVec.toNat_ofNat]; omega)
  · rw [← indices_apply]
    unfold idxR
    pointwise
    rw [indices_apply]
    exact wrap16 _ _

/-- The word an update reads for each axis. -/
theorem start_apply (X : IVec S1x4x7x3 32) (h : Fin 4) (p : Fin 7) (q : Fin 3) :
    (scatter_S1x4x16_S1x4x7x3_S1x4x7_n_012_012_3).start (ix3 0 h p : S1x4x7.Idx) X q = (X (ix4 0 h p q)).toInt := by
  have hm (q : Fin 3) : q ∈ (scatter_S1x4x16_S1x4x7x3_S1x4x7_n_012_012_3).scatterDimsToOperandDims := by
    show q ∈ ([0, 1, 2] : List (Fin 3)); fin_cases q <;> decide
  unfold ScatterDims.start
  rw [dif_pos (hm q)]
  refine congrArg (fun i => (X i).toInt) (funext fun b => ?_)
  fin_cases q <;> fin_cases b <;> rfl

/-- Where an update lands. -/
theorem lands (h g : Fin 4) (p : Fin 7) (n : Fin 16) :
    (scatter_S1x4x16_S1x4x7x3_S1x4x7_n_012_012_3).resultIdx? (ix3 0 h p : S1x4x7.Idx) (idxR V0) = some (ix3 0 g n)
      ↔ h = g ∧ srt ((argR V0).score h) ⟨p.val, by omega⟩ = n := by
  obtain ⟨e0, e1, e2⟩ := idxR_apply V0 h p
  have wd (q : Fin 3) : (scatter_S1x4x16_S1x4x7x3_S1x4x7_n_012_012_3).window (ix3 0 h p : S1x4x7.Idx) q = 0 := by
    fin_cases q <;> rfl
  have iw : ∀ n : Fin 16, (BitVec.ofNat 32 n.val).toInt = (n.val : ℤ) := by decide
  have hw : ∀ n : Fin 4, (BitVec.ofNat 32 n.val).toInt = (n.val : ℤ) := by decide
  have z : (0#32).toInt = 0 := by decide
  rw [Routing.resultIdx?_eq_some]
  constructor
  · intro H
    have h1 := H 1
    have h2 := H 2
    rw [start_apply, wd, e1, hw] at h1
    rw [start_apply, wd, e2, iw] at h2
    have h1' : (h.val : ℤ) + ((0 : ℕ) : ℤ) = (g.val : ℤ) := h1
    have h2' : ((srt ((argR V0).score h) ⟨p.val, by omega⟩).val : ℤ) + ((0 : ℕ) : ℤ) = (n.val : ℤ) := h2
    exact ⟨Fin.ext (by omega), Fin.ext (by omega)⟩
  · rintro ⟨rfl, rfl⟩ a
    rw [wd, start_apply]
    match a with
    | ⟨0, _⟩ => exact (congrArg (fun w : BitVec 32 => w.toInt + ((0 : ℕ) : ℤ)) e0).trans rfl
    | ⟨1, _⟩ => exact (congrArg (fun w : BitVec 32 => w.toInt + ((0 : ℕ) : ℤ)) e1).trans ((add_zero _).trans (hw h))
    | ⟨2, _⟩ => exact (congrArg (fun w : BitVec 32 => w.toInt + ((0 : ℕ) : ℤ)) e2).trans ((add_zero _).trans (iw _))

/-- A block's flag: it is chosen. -/
theorem selR_apply (h : Fin 4) (n : Fin 16) : selR V0 (ix3 0 h n) = if n ∈ chosen V0 h then 1#1 else 0#1 := by
  unfold selR
  by_cases hn : n ∈ chosen V0 h
  · rw [if_pos hn]
    obtain ⟨p, -, hp⟩ := Finset.mem_image.mp hn
    exact Routing.scatter_set_hit _ _ _ _ _ 1#1 (fun k _ => rfl) (ix3 0 h p) ((lands V0 h h p n).mpr ⟨rfl, hp⟩)
  · rw [if_neg hn]
    refine (Routing.scatter_set_miss _ _ _ _ _ fun k hk => hn ?_).trans rfl
    have ek : k = ix3 0 (k 1) (k 2) := by
      funext b
      match b with
      | ⟨0, _⟩ => exact Subsingleton.elim (α := Fin 1) _ _
      | ⟨1, _⟩ => rfl
      | ⟨2, _⟩ => rfl
    rw [ek] at hk
    obtain ⟨h1, h2⟩ := (lands V0 (k 1) h (k 2) n).mp hk
    subst h1
    exact Finset.mem_image.mpr ⟨k 2, Finset.mem_univ _, h2⟩

/-- The mask's condition on a row and a key. -/
def allowed (R j : Fin 2048) (S : Finset (Fin 16)) : Prop :=
  j.val ≤ R.val ∧ ((⟨j.val / 128, by omega⟩ : Fin 16) ∈ S ∨ R.val < j.val + 16)

instance (R j : Fin 2048) (S : Finset (Fin 16)) : Decidable (allowed R j S) := by unfold allowed; infer_instance

/-- A row's word less sixteen. -/
theorem sub16_word : ∀ R : Fin 2048, (IntOp.subi (BitVec.ofNat 32 R.val) 16#32).toInt = (R.val : ℤ) - 16 := by decide +kernel

/-- The word of a position, read as an integer, is the position. -/
theorem int_word (j : Fin 2048) : (BitVec.ofNat 32 j.val).toInt = (j.val : ℤ) := by
  revert j; decide +kernel

set_option maxHeartbeats 1000000 in
/-- The masked scores. -/
theorem v122_apply (ha : ∀ j, V0 (Proc.devRef .tc main_arg3) (ix2 0 j) = 1#32) (h : Fin 16) (R j : Fin 2048) :
    res_main_v122 V0 (ix4 0 h R j) = if allowed R j (chosen V0 ⟨h.val / 4, by omega⟩)
      then (∑ e, (argR V0).q R h e * (argR V0).k j ⟨h.val / 4, by omega⟩ e) * scl else ⊥ := by
  rw [v122_eq]
  unfold v122Of res_main_v89 res_main_v91
  clean_types
  pointwise [v28_apply, v37_apply]
  rw [selR_apply, ninf, ha]
  have e1 : IntOp.cmpi .sgt 1#32 0#32 = BitVec.ofBool true := rfl
  have e2 (P : Prop) [Decidable P] : (if P then 1#1 else 0#1 : BitVec 1) = BitVec.ofBool (decide P) := by
    by_cases h : P <;> simp [h]
  have e3 : IntOp.cmpi .sgt (BitVec.ofNat 32 j.val) (IntOp.subi (BitVec.ofNat 32 R.val) 16#32) = BitVec.ofBool (decide (R.val < j.val + 16)) := by
    refine (WordCmp.cmpi_sgt_eq _ _).trans (congrArg BitVec.ofBool (decide_eq_decide.mpr ?_))
    rw [sub16_word, int_word]; omega
  have e4 : IntOp.cmpi .sle (BitVec.ofNat 32 j.val) (BitVec.ofNat 32 R.val) = BitVec.ofBool (decide (j.val ≤ R.val)) := by
    refine (WordCmp.cmpi_sle_eq _ _).trans (congrArg BitVec.ofBool (decide_eq_decide.mpr ?_))
    rw [int_word, int_word]; omega
  rw [e1, e2, e3, e4, WordCmp.ori_ofBool, WordCmp.andi_ofBool, WordCmp.andi_ofBool, WordCmp.select_ofBool]
  refine if_congr ?_ rfl rfl
  simp only [allowed, Bool.and_true, Bool.and_eq_true, Bool.or_eq_true, decide_eq_true_eq]

end Cert.Proof.Val
-- ==== Proof.Val.InRl.lean ====
/-
With every entry that the queries and the keys are made of a real, so are the queries, the keys and the blocks' scores; and the attention's
weights as those of the allowed keys.
-/
module

public import proofs.«01_k».proof.Proof.Val.Rl
public import proofs.«01_k».proof.Proof.Val.Ref2

@[expose] public section

noncomputable section

namespace Cert.Proof.Val

open Idealize.ShloMosaic
open scoped BigOperators

/-- The word of sixteen. -/
theorem word16 : Ideal.ofBits .f32 0x41800000#32 = ((16 : ℝ) : EReal) := by
  simp [Ideal.ofBits, Ideal.ieee]; rw [← EReal.coe_mul]; norm_num

/-- The word of four. -/
theorem word4 : Ideal.ofBits .f32 0x40800000#32 = ((4 : ℝ) : EReal) := by
  simp [Ideal.ofBits, Ideal.ieee]; rw [← EReal.coe_mul]; norm_num

/-- The word of one hundred and twenty-eight. -/
theorem word128 : Ideal.ofBits .f32 0x43000000#32 = ((128 : ℝ) : EReal) := by
  simp [Ideal.ofBits, Ideal.ieee]; rw [← EReal.coe_mul]; norm_num

/-- The word of one half is a real. -/
theorem wordHalf : Rl (Ideal.ofBits .f32 0x3F000000#32) := by
  simp [Ideal.ofBits, Ideal.ieee]; exact ⟨_, rfl⟩

/-- The scale is a real. -/
theorem scl_rl : Rl scl := by
  unfold scl
  simp [Ideal.ofBits, Ideal.ieee]; exact ⟨_, rfl⟩

/-- Every entry that the queries and the keys are made of is a real. -/
structure In.AllRl (I : In) : Prop where
  x : ∀ R j, Rl (I.x R j)
  cs : ∀ R j, Rl (I.cs R j)
  sn : ∀ R j, Rl (I.sn R j)
  wq : ∀ R j, Rl (I.wq R j)
  bq : ∀ j, Rl (I.bq j)
  wk : ∀ R j, Rl (I.wk R j)
  bk : ∀ j, Rl (I.bk j)

/-- A linear layer of reals is real. -/
theorem linAt_rl {x w : Fin 2048 → EReal} {b : EReal} (hx : ∀ j, Rl (x j)) (hw : ∀ j, Rl (w j)) (hb : Rl b) : Rl (linAt x w b) :=
  (Rl.sum _ fun j => (hx j).mul (hw j)).add hb

/-- A rotation of reals is real. -/
theorem ropeAt_rl {x c s : Fin 128 → EReal} (hx : ∀ j, Rl (x j)) (hc : ∀ j, Rl (c j)) (hs : ∀ j, Rl (s j)) (d : Fin 128) : Rl (ropeAt x c s d) := by
  refine ((hx d).mul (hc d)).add (Rl.mul ?_ (hs d))
  split
  · exact (hx _).zero_sub
  · exact hx _

namespace In.AllRl

variable {I : In} (hI : I.AllRl)
include hI

/-- The queries are real. -/
theorem q (R : Fin 2048) (h : Fin 16) (d : Fin 128) : Rl (I.q R h d) :=
  ropeAt_rl (fun _ => linAt_rl (hI.x R) (fun _ => hI.wq _ _) (hI.bq _)) (hI.cs R) (hI.sn R) d

/-- The keys are real. -/
theorem k (R : Fin 2048) (h : Fin 4) (d : Fin 128) : Rl (I.k R h d) :=
  ropeAt_rl (fun _ => linAt_rl (hI.x R) (fun _ => hI.wk _ _) (hI.bk _)) (hI.cs R) (hI.sn R) d

/-- The blocks' scores are real. -/
theorem score (h : Fin 4) (n : Fin 16) : Rl (I.score h n) := by
  have hq : ∀ d, Rl (qoOf (fun g r d => I.q ⟨2032 + r.val, by omega⟩ ⟨4 * h.val + g.val, by omega⟩ d) d) := fun d => by
    rw [qoOf, word16, word4]
    exact Rl.div_coe (by norm_num) (Rl.sum _ fun g => Rl.div_coe (by norm_num) (Rl.sum _ fun r => hI.q _ _ _))
  rw [In.score, scoreOf, word128, ninf]
  exact (wordHalf.mul (Rl.sum _ fun d => (hq d).mul (Rl.div_coe (by norm_num) (Rl.sum _ fun r => hI.k _ _ _)))).add
    (wordHalf.mul (Rl.sum _ fun d => (hq d).mul (Rl.fold_max _ fun r => hI.k _ _ _)))

end In.AllRl

/-- The weight of a key at a row is one when the key is allowed there, and zero when not. -/
theorem W_gate (S : Fin 4 → Finset (Fin 16)) (h : Fin 4) (R j : Fin 2048) :
    W (In.gate S h) R j = if allowed R j (S h) then 1 else 0 := by
  have hR := R.isLt
  have hj := j.isLt
  unfold W wt In.gate allowed
  by_cases hb : (⟨j.val / 128, by omega⟩ : Fin 16) ∈ S h
  · simp only [hb, if_true, true_or, and_true, zero_lt_one, true_and]
    by_cases c : j.val ≤ R.val
    · rw [if_pos c, if_pos (by omega)]
      split
      · rfl
      · split
        · split <;> simp
        · rw [if_pos (by omega)]
    · rw [if_neg c]
      split
      · rw [if_neg (by omega), if_neg (by omega), if_neg (by omega), if_neg (by omega)]
      · rfl
  · simp only [hb, if_false, false_or, lt_self_iff_false, false_and]
    by_cases c : j.val ≤ R.val ∧ R.val < j.val + 16
    · rw [if_pos c, if_pos (by omega), if_neg (by omega)]
      split
      · rw [if_pos (by omega)]; simp
      · rw [if_pos (by omega)]
    · rw [if_neg c]
      split
      · split
        · rfl
        · split
          · rw [if_neg (by omega)]; simp
          · rw [if_neg (by omega)]
      · rfl

end Cert.Proof.Val
-- ==== Proof.Val.Ref3.lean ====
/-
The reference's result at an index: the layer's value, with the blocks the reference chooses.
-/
module

public import proofs.«01_k».proof.Proof.Val.InRl
public import proofs.«01_k».proof.Proof.Val.Arr1

@[expose] public section

set_option maxRecDepth 16384

noncomputable section

namespace Cert.Proof.Val

open Cert.ReferenceIdeal Cert.ReferenceIdeal.Gen Cert.ReferenceIdeal.Value
open Idealize.ShloMosaic
open scoped BigOperators

variable (V0 : Valuation τ sig (Elt Ideal))

/-- One exponential of a row, its greatest entry taken off. -/
def expAt (s : Fin 2048 → EReal) (j : Fin 2048) : EReal := Ideal.exp (s j - max ⊥ (Finset.univ.fold max ⊥ s))

/-- A row's greatest entry, folded from negative infinity. -/
theorem rowMax_apply (X : FVec Ideal S1x16x2048x2048 .f32) (h : Fin 16) (R : Fin 2048) :
    Host.reduce FloatOps.maximumf X (constant S_ .f32 0xFF800000#32) reducesTo_S1x16x2048x2048_S1x16x2048_d3 h_S_ (ix3 0 h R)
      = Finset.univ.fold max ⊥ fun k => X (ix4 0 h R k) := by
  pointwise
  rw [ninf]

/-- The exponentials of an array, each row's greatest entry taken off, at an index. -/
theorem expRow_apply (X : FVec Ideal S1x16x2048x2048 .f32) (M : FVec Ideal S1x16x2048 .f32) (h : Fin 16) (R j : Fin 2048) :
    Host.exp (subf X (broadcastInDim S1x16x2048x2048 ![0, 1, 2, 3] bcast_S1x16x2048x1_S1x16x2048x2048_0_1_2_3
      (broadcastInDim S1x16x2048x1 ![0, 1, 2] bcast_S1x16x2048_S1x16x2048x1_0_1_2
        (maximumf (broadcastInDim S1x16x2048 ![] bcast_S_S1x16x2048 (constant S_ .f32 0xFF800000#32)) M)))) (ix4 0 h R j)
      = Ideal.exp (X (ix4 0 h R j) - max ⊥ (M (ix3 0 h R))) := by
  pointwise
  rw [ninf]

/-- The reference's exponentials at an index. -/
theorem v129_apply (h : Fin 16) (R j : Fin 2048) :
    res_main_v129 V0 (ix4 0 h R j) = expAt (fun k => res_main_v122 V0 (ix4 0 h R k)) j := by
  unfold res_main_v129
  refine (expRow_apply (res_main_v122 V0) _ h R j).trans ?_
  rw [rowMax_apply]
  rfl

/-- The reference's result at an index, of its exponentials. -/
theorem v137_apply (R C : Fin 2048) :
    val3 V0 (Proc.devRef .tc main_v137) (ix3 0 R C) = dotE (fun j => dotE
      (fun i => Ideal.div (res_main_v129 V0 (ix4 0 ⟨j.val / 128, by omega⟩ R i)) (∑ l, res_main_v129 V0 (ix4 0 ⟨j.val / 128, by omega⟩ R l)))
      (fun i => (argR V0).v i ⟨128 * (j.val / 512) + j.val % 128, by omega⟩)) (fun j => (argR V0).wo j C) := by
  rw [val3_main_v137]
  clean_types
  pointwise
  refine congrArg₂ dotE (funext fun j => congrArg₂ dotE rfl (funext fun i => ?_)) rfl
  have e : (⟨j.val / 128 / 4 * 128 + j.val % 128, by omega⟩ : Fin 512) = ⟨128 * (j.val / 512) + j.val % 128, by omega⟩ :=
    Fin.ext (by simp only; omega)
  rw [e]
  rfl

/-- The scale may be put on the query before its product with a key, or on the product after. -/
theorem logit_eq {q k : Fin 128 → EReal} (hq : ∀ e, Rl (q e)) (hk : ∀ e, Rl (k e)) :
    ∃ s : ℝ, (∑ e, q e * k e) * scl = (s : EReal) ∧ ∑ e, q e * scl * k e = (s : EReal) := by
  choose q' hq' using hq
  choose k' hk' using hk
  obtain ⟨c, hc⟩ := scl_rl
  refine ⟨(∑ e, q' e * k' e) * c, ?_, ?_⟩
  · simp only [hq', hk', hc, ← EReal.coe_mul, coe_sum]
  · simp only [hq', hk', hc, ← EReal.coe_mul, coe_sum, Finset.sum_mul]
    refine congrArg Real.toEReal (Finset.sum_congr rfl fun e _ => by ring)

/-- A row's softmax over the allowed keys, applied to the values, is the gated mean. -/
theorem attV_eq (S : Fin 4 → Finset (Fin 16)) (g : Fin 4) (R : Fin 2048) (q : Fin 128 → EReal) (k v : Fin 2048 → Fin 128 → EReal) (d : Fin 128)
    (hq : ∀ e, Rl (q e)) (hk : ∀ j e, Rl (k j e)) (x : Fin 2048 → EReal)
    (hx : ∀ j, x j = if allowed R j (S g) then (∑ e, q e * k j e) * scl else ⊥) :
    dotE (fun j => Ideal.div (expAt x j) (∑ l, expAt x l)) (fun j => v j d) = attV (In.gate S g) q k v R d := by
  choose s hs hs' using fun j => logit_eq hq (hk j)
  have e : x = fun j => if allowed R j (S g) then (s j : EReal) else ⊥ := funext fun j => by rw [hx, hs]
  have diag : allowed R R (S g) := ⟨le_rfl, Or.inr (by omega)⟩
  have main := softmax_mean s (fun j => v j d) (fun j => allowed R j (S g)) R diag
  subst e
  unfold attV dotE expAt
  simp only [hs', W_gate]
  exact main

/-- The reference's result at an index, of an all-ones mask and real arguments, is the layer's value. -/
theorem ref_value (ha : ∀ j, V0 (Proc.devRef .tc main_arg3) (ix2 0 j) = 1#32) (hI : (argR V0).AllRl) (R C : Fin 2048) :
    val3 V0 (Proc.devRef .tc main_v137) (ix3 0 R C) = (argR V0).out (chosen V0) R C := by
  refine (v137_apply V0 R C).trans (congrArg₂ dotE (funext fun j => ?_) rfl)
  have e : (⟨j.val / 128 / 4, by omega⟩ : Fin 4) = ⟨j.val / 512, by omega⟩ := Fin.ext (by simp only; omega)
  have hx : ∀ i, res_main_v122 V0 (ix4 0 ⟨j.val / 128, by omega⟩ R i) = if allowed R i (chosen V0 ⟨j.val / 512, by omega⟩)
      then (∑ e, (argR V0).q R ⟨j.val / 128, by omega⟩ e * (argR V0).k i ⟨j.val / 512, by omega⟩ e) * scl else ⊥ := fun i => by
    rw [v122_apply V0 ha, e]
  refine Eq.trans ?_ (attV_eq (chosen V0) ⟨j.val / 512, by omega⟩ R ((argR V0).q R ⟨j.val / 128, by omega⟩)
    (fun i => (argR V0).k i ⟨j.val / 512, by omega⟩) (fun i e => (argR V0).v i ⟨128 * (j.val / 512) + e.val, by omega⟩)
    ⟨j.val % 128, Nat.mod_lt _ (by decide)⟩ (hI.q _ _) (fun i => hI.k i _) _ hx)
  simp only [v129_apply]

end Cert.Proof.Val
-- ==== Proof.Val.Pre.lean ====
/-
The precondition read at the arguments: the mask is one everywhere and every entry that the queries and the keys are made of is a real.
-/
module

public import proofs.«01_k».proof.Pre_drawn
public import proofs.«01_k».proof.Proof.Val.Rl
public import Idealize.ShloMosaic.Lib.ReduceAll
public import Idealize.ShloMosaic.Lib.Affine
public import Idealize.ShloMosaic.Lib.Pointwise

@[expose] public section

set_option maxRecDepth 16384

noncomputable section

namespace Cert.Proof.Val

open Idealize.ShloMosaic

/-- The precondition's shape relations hold. -/
theorem preFacts : Cert.Pre_drawn.Facts where
  bcast_S_S1x2048 := by decide
  reducesTo_S1x2048_S_d0_1 := by decide
  h_S_ := by decide
  bcast_S_S1x2048x2048 := by decide
  reducesTo_S1x2048x2048_S_d0_1_2 := by decide
  bcast_S_S1x2048x128 := by decide
  reducesTo_S1x2048x128_S_d0_1_2 := by decide
  bcast_S_S2048x2048 := by decide
  reducesTo_S2048x2048_S_d0_1 := by decide
  bcast_S_S2048 := by decide
  reducesTo_S2048_S_d0 := by decide
  bcast_S_S2048x512 := by decide
  reducesTo_S2048x512_S_d0_1 := by decide
  bcast_S_S512 := by decide
  reducesTo_S512_S_d0 := by decide

instance : Subsingleton Cert.Pre_drawn.S_.Idx := ⟨fun a b => funext fun i => i.elim0⟩

/-- An extended real whose absolute value is below infinity is a real. -/
theorem rl_of_abs (x : EReal) (h : max x (-x) < ⊤) : Rl x := by
  induction x using EReal.rec with
  | bot => simp at h
  | coe r => exact ⟨r, rfl⟩
  | top => simp at h

/-- The word of infinity is the greatest extended real. -/
theorem pinf : Ideal.ofBits .f32 0x7F800000#32 = ⊤ := by
  simp [Ideal.ofBits, Ideal.ieee]

/-- An array all of whose absolute values are below infinity holds reals. -/
theorem all_rl {s u : Shape} {axes : List (Fin s.rank)} (x : FVec Ideal s .f32) (hb : Cert.Pre_drawn.S_.BroadcastsInDim s (![] : Fin 0 → Fin s.rank))
    (init : IVec u 1) (h : s.ReducesTo axes Cert.Pre_drawn.S_) (hu : 0 < u.numel) (j : Cert.Pre_drawn.S_.Idx)
    (e : Host.reduce IntOp.andi (cmpf .olt (Host.absf x) (broadcastInDim s ![] hb (constant (F := Ideal) Cert.Pre_drawn.S_ .f32 0x7F800000#32))) init h hu j = 1#1)
    (i : s.Idx) : Rl (x i) := by
  have e1 : Ideal.cmp .olt (max (x i) (-(x i))) (Ideal.ofBits .f32 0x7F800000#32) = 1#1 := Host.reduce_andi_all _ init h hu j e i
  rw [pinf] at e1
  refine rl_of_abs _ ?_
  by_contra hn
  simp [Ideal.cmp, hn] at e1

/-- A conjunction of one-bit words is one only when both are. -/
theorem andi_one {a b : BitVec 1} (h : IntOp.andi a b = 1#1) : a = 1#1 ∧ b = 1#1 := by
  revert a b; decide

/-- The precondition read at the arguments. -/
theorem drawn_read [Cert.Pre_drawn.Facts] (a0 : FVec Ideal Cert.Pre_drawn.S1x2048x2048 .f32) (a1 a2 : FVec Ideal Cert.Pre_drawn.S1x2048x128 .f32)
    (a3 : IVec Cert.Pre_drawn.S1x2048 32) (a4 : IVec Cert.Pre_drawn.S_ 32) (a5 : FVec Ideal Cert.Pre_drawn.S2048x2048 .f32)
    (a6 : FVec Ideal Cert.Pre_drawn.S2048 .f32) (a7 : FVec Ideal Cert.Pre_drawn.S2048x512 .f32) (a8 : FVec Ideal Cert.Pre_drawn.S512 .f32)
    (a9 : FVec Ideal Cert.Pre_drawn.S2048x512 .f32) (a10 : FVec Ideal Cert.Pre_drawn.S512 .f32) (a11 : FVec Ideal Cert.Pre_drawn.S2048x2048 .f32)
    (h : Cert.Pre_drawn.fn a0 a1 a2 a3 a4 a5 a6 a7 a8 a9 a10 a11 = fun _ => 1#1) :
    (∀ i, a3 i = 1#32) ∧ (∀ i, Rl (a0 i)) ∧ (∀ i, Rl (a1 i)) ∧ (∀ i, Rl (a2 i)) ∧ (∀ i, Rl (a5 i)) ∧ (∀ i, Rl (a6 i))
      ∧ (∀ i, Rl (a7 i)) ∧ ∀ i, Rl (a8 i) := by
  have h := congrFun h (fun i => i.elim0)
  unfold Cert.Pre_drawn.fn Cert.Pre_drawn.fn_part1 Cert.Pre_drawn.fn_part2 at h
  obtain ⟨h, h8⟩ := andi_one h
  obtain ⟨h, h7⟩ := andi_one h
  obtain ⟨h, h6⟩ := andi_one h
  obtain ⟨h, h5⟩ := andi_one h
  obtain ⟨h, h2⟩ := andi_one h
  obtain ⟨h, h1⟩ := andi_one h
  obtain ⟨h3, h0⟩ := andi_one h
  refine ⟨fun i => ?_, all_rl _ _ _ _ _ _ h0, all_rl _ _ _ _ _ _ h1, all_rl _ _ _ _ _ _ h2, all_rl _ _ _ _ _ _ h5, all_rl _ _ _ _ _ _ h6,
    all_rl _ _ _ _ _ _ h7, all_rl _ _ _ _ _ _ h8⟩
  have e : IntOp.cmpi .eq (a3 i) 1#32 = 1#1 := Host.reduce_andi_all _ _ _ _ _ h3 i
  exact IntOp.cmpi_eq.mp e

end Cert.Proof.Val
-- ==== Proof.lean ====
/-
  The certificate's top: the frames of the kernel and of its idealization (the run of K/Run.lean and of KI/Run.lean, read at the
  arguments) and of the reference (its generated run; it declares no semaphore); and the value claim, where both programs' results are the one layer
  of Val/Spec.lean at the arguments' entries (Val/KVal.lean and Val/Ref3.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Val.KVal
public import proofs.«01_k».proof.Proof.Val.Ref3
public import proofs.«01_k».proof.Proof.Val.Pre
public import Idealize.ShloMosaic.Lib.Quiescent

@[expose] public section

noncomputable section

namespace Cert.Proof

open Idealize.ShloMosaic Idealize.SL.Sem

/-- The reference ends with its arguments unchanged; it declares no semaphore, so every counter is at zero. -/
theorem frame_reference : Cert.quiescent_ReferenceIdeal (hReferenceIdeal := Cert.ReferenceIdeal.Gen.facts) :=
  fun m g _ => (θ_run _ _ _).mono (fun _ h => ⟨fun c => (h c).2, sem_eq_zero_of_no_sems (by decide) _⟩) (Cert.ReferenceIdeal.Value.run m g)

section Value

open Cert.Proof.Val

variable [hP : Cert.Pre_drawn.Facts]
variable (m : (ℓ : Loc Cert.KernelIdeal.nD Cert.KernelIdeal.τ Cert.KernelIdeal.sig) → Buf (Elt Ideal) ℓ)
variable (c : Dev Cert.KernelIdeal.nD)

/-- Under the precondition every entry that the queries and the keys are made of is a real. -/
theorem argK_rl (h : Cert.Pre_KernelIdeal_drawn m) : (argK m c).AllRl := by
  obtain ⟨_, h0, h1, h2, h5, h6, h7, h8⟩ := drawn_read _ _ _ _ _ _ _ _ _ _ _ _ (h c)
  exact ⟨fun _ _ => h0 _, fun _ _ => h1 _, fun _ _ => h2 _, fun _ _ => h5 _, fun _ => h6 _, fun _ _ => h7 _, fun _ => h8 _⟩

/-- The result both programs end with: the layer at the kernel's arguments, with the blocks chosen by their scores. -/
def result : Buf (Elt Ideal) ((c.tc : Thread Cert.KernelIdeal.nD Cert.KernelIdeal.τ).loc Cert.KernelIdeal.main_v4) :=
  fun i : Cert.KernelIdeal.S1x2048x2048.Idx => (argK m c).out (fun h => top7 ((argK m c).score h)) (i 1) (i 2)

/-- The kernel's result. -/
theorem kernel_result (h : Cert.Pre_KernelIdeal_drawn m) :
    Cert.Proof.KI.W7 m c (Proc.devRef .tc Cert.KernelIdeal.main_v4) = result m c := by
  refine funext fun i : Cert.KernelIdeal.S1x2048x2048.Idx => ?_
  have e : i = ix3 0 (i 1) (i 2) := by
    funext a
    fin_cases a
    · exact Subsingleton.elim (α := Fin 1) _ _
    · rfl
    · rfl
  have hI := argK_rl m c h
  refine (congrArg (Cert.Proof.KI.W7 m c (Proc.devRef .tc Cert.KernelIdeal.main_v4)) e).trans ?_
  exact kernel_value m c (fun h => top7 ((argK m c).score h)) (fun g n => (hI.score g n).bot_lt) (fun g => top7_top _) (i 1) (i 2)

end Value

/-- From memories that agree on the arguments and meet the precondition, the two programs end with the same result. -/
theorem value : Cert.algebraic_KernelIdeal_ReferenceIdeal_pre_drawn (hKernelIdeal := Cert.KernelIdeal.Gen.facts)
    (hReferenceIdeal := Cert.ReferenceIdeal.Gen.facts) (hPre_drawn := Cert.Proof.Val.preFacts) := by
  intro m g m' g' hpre hargs
  have hP := Cert.Proof.Val.preFacts
  refine ⟨result m, ?_, ?_⟩
  · refine (θ_run _ _ _).mono (fun r h c => ?_) (Cert.Proof.KI.run m g)
    exact ⟨(Cert.Proof.KI.run_read m h.1 c _ (by decide)).trans (kernel_result m c hpre), Cert.Proof.KI.run_arg m h.1 c _ (by decide) (by decide),
      Cert.Proof.KI.run_arg m h.1 c _ (by decide) (by decide), Cert.Proof.KI.run_arg m h.1 c _ (by decide) (by decide),
      Cert.Proof.KI.run_arg m h.1 c _ (by decide) (by decide), Cert.Proof.KI.run_arg m h.1 c _ (by decide) (by decide),
      Cert.Proof.KI.run_arg m h.1 c _ (by decide) (by decide), Cert.Proof.KI.run_arg m h.1 c _ (by decide) (by decide),
      Cert.Proof.KI.run_arg m h.1 c _ (by decide) (by decide), Cert.Proof.KI.run_arg m h.1 c _ (by decide) (by decide),
      Cert.Proof.KI.run_arg m h.1 c _ (by decide) (by decide), Cert.Proof.KI.run_arg m h.1 c _ (by decide) (by decide),
      Cert.Proof.KI.run_arg m h.1 c _ (by decide) (by decide)⟩
  · refine (θ_run _ _ _).mono (fun r h c => ⟨?_, (h c).2⟩) (Cert.ReferenceIdeal.Value.run m' g')
    refine ((h c).1.trans (Cert.ReferenceIdeal.Value.val3_main_v137 _).symm).trans ?_
    obtain ⟨a0, a1, a2, a3, a4, a5, a6, a7, a8, a9, a10, a11⟩ := hargs c
    have hI : Cert.Proof.Val.argR (StableHlo.launchContents m' c) = Cert.Proof.Val.argK m c := by
      unfold Cert.Proof.Val.argR Cert.Proof.Val.argK
      congr 1
      · exact funext fun R => funext fun j => congrFun a0 _
      · exact funext fun R => funext fun j => congrFun a1 _
      · exact funext fun R => funext fun j => congrFun a2 _
      · exact funext fun R => funext fun j => congrFun a5 _
      · exact funext fun j => congrFun a6 _
      · exact funext fun R => funext fun j => congrFun a7 _
      · exact funext fun j => congrFun a8 _
      · exact funext fun R => funext fun j => congrFun a9 _
      · exact funext fun j => congrFun a10 _
      · exact funext fun R => funext fun j => congrFun a11 _
    have ha : ∀ j, StableHlo.launchContents m' c (Proc.devRef .tc Cert.ReferenceIdeal.main_arg3) (ix2 0 j) = 1#32 := fun j =>
      (congrFun a3 _).trans ((Cert.Proof.Val.drawn_read _ _ _ _ _ _ _ _ _ _ _ _ (hpre c)).1 _)
    refine funext fun i : Cert.KernelIdeal.S1x2048x2048.Idx => ?_
    have e : i = ix3 0 (i 1) (i 2) := by
      funext a
      fin_cases a
      · exact Subsingleton.elim (α := Fin 1) _ _
      · rfl
      · rfl
    refine (congrArg (Cert.ReferenceIdeal.Value.val3 (StableHlo.launchContents m' c) (Proc.devRef .tc Cert.ReferenceIdeal.main_v137)) e).trans ?_
    refine (Cert.Proof.Val.ref_value _ ha (hI ▸ argK_rl m c hpre) (i 1) (i 2)).trans ?_
    unfold Cert.Proof.Val.chosen
    rw [hI]
    rfl

/-- Every claim of this certificate. -/
theorem claim : Cert.Claim := ⟨Cert.Kernel.Gen.facts, Cert.KernelIdeal.Gen.facts, Cert.ReferenceIdeal.Gen.facts,
  Cert.Proof.Val.preFacts, fun m g _ => Cert.Proof.K.frame m g, fun m g _ => Cert.Proof.KI.frame m g, fun m g _ => Cert.Proof.KI.frame m g,
  frame_reference, fun m g _ => frame_reference m g trivial, trivial, value⟩

end Cert.Proof

end
